-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_directions [hPre_directions : Cert.Pre_directions.Facts] (m : (ℓ : Loc Cert.KernelIdeal.nD Cert.KernelIdeal.τ Cert.KernelIdeal.sig) → Buf (Elt Ideal) ℓ) : Prop :=
  ∀ c : Dev Cert.KernelIdeal.nD,
    (Cert.Pre_directions.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_directions [hPre_directions : Cert.Pre_directions.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_directions.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_directions [hKernelIdeal : Cert.KernelIdeal.Facts] [hPre_directions : Cert.Pre_directions.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_directions m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_directions [hReferenceIdeal : Cert.ReferenceIdeal.Facts] [hPre_directions : Cert.Pre_directions.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_directions m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_l" .f32 0x3C23D70A#32 ((1 / 100 : ℝ) : EReal)

def algebraic_KernelIdeal_ReferenceIdeal_pre_directions [hKernelIdeal : Cert.KernelIdeal.Facts] [hReferenceIdeal : Cert.ReferenceIdeal.Facts] [hPre_directions : Cert.Pre_directions.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_directions m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_directions : Cert.Pre_directions.Facts),
    quiescent_Kernel (hKernel := hKernel)
    ∧ quiescent_KernelIdeal (hKernelIdeal := hKernelIdeal)
    ∧ quiescent_KernelIdeal_pre_directions (hKernelIdeal := hKernelIdeal) (hPre_directions := hPre_directions)
    ∧ quiescent_ReferenceIdeal (hReferenceIdeal := hReferenceIdeal)
    ∧ quiescent_ReferenceIdeal_pre_directions (hReferenceIdeal := hReferenceIdeal) (hPre_directions := hPre_directions)
    ∧ preserves_Kernel_KernelIdeal
    ∧ algebraic_KernelIdeal_ReferenceIdeal_pre_directions (hKernelIdeal := hKernelIdeal) (hReferenceIdeal := hReferenceIdeal) (hPre_directions := hPre_directions)
-- ==== Pre_directions.lean ====
abbrev S100000x3 : Shape := ⟨2, ![100000, 3]⟩
abbrev S3x100 : Shape := ⟨2, ![3, 100]⟩
abbrev S1x100 : Shape := ⟨2, ![1, 100]⟩
abbrev S100 : Shape := ⟨1, ![100]⟩
abbrev S_ : Shape := ⟨0, ![]⟩

class Facts : Prop where
  slices_S3x100_S1x100_0_0 : S3x100.Slices ![0, 0] S1x100
  shapeCasts_S1x100_S100 : S1x100.ShapeCasts S100
  bcast_S_S100 : S_.BroadcastsInDim S100 (![] : Fin 0 → Fin S100.rank)
  slices_S3x100_S1x100_1_0 : S3x100.Slices ![1, 0] S1x100
  slices_S3x100_S1x100_2_0 : S3x100.Slices ![2, 0] S1x100

variable [Facts]

def fn {F : FTy → Type} [FloatOps F] (main_arg0 : FVec F S100000x3 .f32) (main_arg1 : FVec F S100000x3 .f32) (main_arg2 : FVec F S3x100 .f32) : IVec S100 1 :=
  let main_v0 : FVec F S1x100 .f32 := (extractStridedSlice S1x100 ![0, 0] · slices_S3x100_S1x100_0_0) main_arg2
  let main_v1 : FVec F S100 .f32 := shapeCast S100 main_v0 shapeCasts_S1x100_S100
  let main_cst : FVec F S_ .f32 := constant S_ .f32 0x00000000#32
  let main_v2 : FVec F S100 .f32 := broadcastInDim S100 ![] bcast_S_S100 main_cst
  let main_v3 : IVec S100 1 := cmpf .une main_v1 main_v2
  let main_v4 : FVec F S1x100 .f32 := (extractStridedSlice S1x100 ![1, 0] · slices_S3x100_S1x100_1_0) main_arg2
  let main_v5 : FVec F S100 .f32 := shapeCast S100 main_v4 shapeCasts_S1x100_S100
  let main_cst_0 : FVec F S_ .f32 := constant S_ .f32 0x00000000#32
  let main_v6 : FVec F S100 .f32 := broadcastInDim S100 ![] bcast_S_S100 main_cst_0
  let main_v7 : IVec S100 1 := cmpf .une main_v5 main_v6
  let main_v8 : IVec S100 1 := ori main_v3 main_v7
  let main_v9 : FVec F S1x100 .f32 := (extractStridedSlice S1x100 ![2, 0] · slices_S3x100_S1x100_2_0) main_arg2
  let main_v10 : FVec F S100 .f32 := shapeCast S100 main_v9 shapeCasts_S1x100_S100
  let main_cst_1 : FVec F S_ .f32 := constant S_ .f32 0x00000000#32
  let main_v11 : FVec F S100 .f32 := broadcastInDim S100 ![] bcast_S_S100 main_cst_1
  let main_v12 : IVec S100 1 := cmpf .une main_v10 main_v11
  let main_v13 : IVec S100 1 := ori main_v8 main_v12
  main_v13
-- ==== Kernel.lean ====
abbrev S100000x3 : Shape := ⟨2, ![100000, 3]⟩
abbrev S3x100 : Shape := ⟨2, ![3, 100]⟩
abbrev S_ : Shape := ⟨0, ![]⟩
abbrev S131072x3 : Shape := ⟨2, ![131072, 3]⟩
abbrev S3x131072 : Shape := ⟨2, ![3, 131072]⟩
abbrev S3x128x1024 : Shape := ⟨3, ![3, 128, 1024]⟩
abbrev S3x1024x128 : Shape := ⟨3, ![3, 1024, 128]⟩
abbrev S100x3 : Shape := ⟨2, ![100, 3]⟩
abbrev S100x1x3 : Shape := ⟨3, ![100, 1, 3]⟩
abbrev S100x1x128 : Shape := ⟨3, ![100, 1, 128]⟩
abbrev S1x1 : Shape := ⟨2, ![1, 1]⟩
abbrev S1x1x128 : Shape := ⟨3, ![1, 1, 128]⟩
abbrev S1024x128 : Shape := ⟨2, ![1024, 128]⟩
abbrev S1x128 : Shape := ⟨2, ![1, 128]⟩
abbrev S1x1024x128 : Shape := ⟨3, ![1, 1024, 128]⟩
abbrev S1 : Shape := ⟨1, ![1]⟩
abbrev S1x1x1 : Shape := ⟨3, ![1, 1, 1]⟩

abbrev nBuf : Space → Nat
  | .hbm => 22
  | .vmem => 5
  | .smem => 0
  | _ => 0

abbrev bufTy : (tb : Table) → Fin (tcTables nBuf tb) → BufTy
  | .hbm, ⟨0, _⟩ => ⟨S100000x3, .f32⟩
  | .hbm, ⟨1, _⟩ => ⟨S100000x3, .f32⟩
  | .hbm, ⟨2, _⟩ => ⟨S3x100, .f32⟩
  | .hbm, ⟨3, _⟩ => ⟨S_, .i32⟩
  | .hbm, ⟨4, _⟩ => ⟨S_, .f32⟩
  | .hbm, ⟨5, _⟩ => ⟨S131072x3, .f32⟩
  | .hbm, ⟨6, _⟩ => ⟨S3x131072, .f32⟩
  | .hbm, ⟨7, _⟩ => ⟨S3x128x1024, .f32⟩
  | .hbm, ⟨8, _⟩ => ⟨S3x1024x128, .f32⟩
  | .hbm, ⟨9, _⟩ => ⟨S_, .i32⟩
  | .hbm, ⟨10, _⟩ => ⟨S_, .f32⟩
  | .hbm, ⟨11, _⟩ => ⟨S131072x3, .f32⟩
  | .hbm, ⟨12, _⟩ => ⟨S3x131072, .f32⟩
  | .hbm, ⟨13, _⟩ => ⟨S3x128x1024, .f32⟩
  | .hbm, ⟨14, _⟩ => ⟨S3x1024x128, .f32⟩
  | .hbm, ⟨15, _⟩ => ⟨S100x3, .f32⟩
  | .hbm, ⟨16, _⟩ => ⟨S100x1x3, .f32⟩
  | .hbm, ⟨17, _⟩ => ⟨S_, .i32⟩
  | .hbm, ⟨18, _⟩ => ⟨S_, .f32⟩
  | .hbm, ⟨19, _⟩ => ⟨S100x1x128, .f32⟩
  | .hbm, ⟨20, _⟩ => ⟨S1x1, .f32⟩
  | .hbm, ⟨21, _⟩ => ⟨S_, .f32⟩
  | .local _ .vmem, ⟨0, _⟩ => ⟨S3x1024x128, .f32⟩
  | .local _ .vmem, ⟨1, _⟩ => ⟨S3x1024x128, .f32⟩
  | .local _ .vmem, ⟨2, _⟩ => ⟨S1x1x128, .f32⟩
  | .local _ .vmem, ⟨3, _⟩ => ⟨S1x1x128, .f32⟩
  | .local _ .vmem, ⟨4, _⟩ => ⟨S1x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_call0_v0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_c_0 : Ref sig .tc := ⟨.hbm, 9, rfl⟩
abbrev main_call0_call1_v0 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_c_1 : Ref sig .tc := ⟨.hbm, 17, rfl⟩
abbrev main_call0_call2_v0 : Ref sig .tc := ⟨.hbm, 18, rfl⟩
abbrev main_call0_v10 : Ref sig .tc := ⟨.hbm, 19, rfl⟩
abbrev main_call0_v11 : Ref sig .tc := ⟨.hbm, 20, rfl⟩
abbrev main_v0 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![100], ![false]⟩

@[reducible] def k0_t1_loop : Scf.Loop 32 :=
  let c1_i32 : BitVec 32 := 1#32
  let c17_i32 : BitVec 32 := 17#32
  let v53 : BitVec 32 := Scalar.addi c1_i32 c17_i32
  let c1_i32_19 : BitVec 32 := 1#32
  ⟨c1_i32, v53, c1_i32_19⟩
@[reducible] def k0_t2_loop (k0_t1 : Fin k0_t1_loop.trips) : Scf.Loop 32 :=
  let c0_i32_124 : BitVec 32 := 0#32
  let c1_i32 : BitVec 32 := 1#32
  let c1_i32_19 : BitVec 32 := 1#32
  let arg5 : BitVec 32 := Scf.iv c1_i32 c1_i32_19 k0_t1
  let c10_i32 : BitVec 32 := 10#32
  let v337 : BitVec 32 := Scalar.subi arg5 c10_i32
  let c0_i32_123 : BitVec 32 := 0#32
  let v338 : BitVec 32 := Scalar.maxsi v337 c0_i32_123
  let v339 : BitVec 32 := Scalar.subi v338 c0_i32_124
  let c1_i32_125 : BitVec 32 := 1#32
  let v341 : BitVec 32 := Scalar.divsi v339 c1_i32_125
  let v342 : BitVec 32 := Scalar.muli v341 c1_i32_125
  let v343 : BitVec 32 := Scalar.addi c0_i32_124 v342
  let c1_i32_126 : BitVec 32 := 1#32
  ⟨c0_i32_124, v343, c1_i32_126⟩
@[reducible] def k0_t3_loop (k0_t1 : Fin k0_t1_loop.trips) : Scf.Loop 32 :=
  let c0_i32_124 : BitVec 32 := 0#32
  let c1_i32 : BitVec 32 := 1#32
  let c1_i32_19 : BitVec 32 := 1#32
  let arg5 : BitVec 32 := Scf.iv c1_i32 c1_i32_19 k0_t1
  let c10_i32 : BitVec 32 := 10#32
  let v337 : BitVec 32 := Scalar.subi arg5 c10_i32
  let c0_i32_123 : BitVec 32 := 0#32
  let v338 : BitVec 32 := Scalar.maxsi v337 c0_i32_123
  let v339 : BitVec 32 := Scalar.subi v338 c0_i32_124
  let c1_i32_125 : BitVec 32 := 1#32
  let v341 : BitVec 32 := Scalar.divsi v339 c1_i32_125
  let v342 : BitVec 32 := Scalar.muli v341 c1_i32_125
  let v343 : BitVec 32 := Scalar.addi c0_i32_124 v342
  let v340 : BitVec 32 := Scalar.addi c0_i32_124 v339
  let c1_i32_127 : BitVec 32 := 1#32
  ⟨v343, v340, c1_i32_127⟩
@[reducible] def k0_t4_loop (k0_t1 : Fin k0_t1_loop.trips) : Scf.Loop 32 :=
  let c0_i32_129 : BitVec 32 := 0#32
  let c1_i32 : BitVec 32 := 1#32
  let c1_i32_19 : BitVec 32 := 1#32
  let arg5 : BitVec 32 := Scf.iv c1_i32 c1_i32_19 k0_t1
  let c10_i32_128 : BitVec 32 := 10#32
  let v346 : BitVec 32 := Scalar.minsi arg5 c10_i32_128
  let v347 : BitVec 32 := Scalar.subi v346 c0_i32_129
  let c1_i32_130 : BitVec 32 := 1#32
  let v349 : BitVec 32 := Scalar.divsi v347 c1_i32_130
  let v350 : BitVec 32 := Scalar.muli v349 c1_i32_130
  let v351 : BitVec 32 := Scalar.addi c0_i32_129 v350
  let c1_i32_131 : BitVec 32 := 1#32
  ⟨c0_i32_129, v351, c1_i32_131⟩
@[reducible] def k0_t5_loop (k0_t1 : Fin k0_t1_loop.trips) : Scf.Loop 32 :=
  let c0_i32_129 : BitVec 32 := 0#32
  let c1_i32 : BitVec 32 := 1#32
  let c1_i32_19 : BitVec 32 := 1#32
  let arg5 : BitVec 32 := Scf.iv c1_i32 c1_i32_19 k0_t1
  let c10_i32_128 : BitVec 32 := 10#32
  let v346 : BitVec 32 := Scalar.minsi arg5 c10_i32_128
  let v347 : BitVec 32 := Scalar.subi v346 c0_i32_129
  let c1_i32_130 : BitVec 32 := 1#32
  let v349 : BitVec 32 := Scalar.divsi v347 c1_i32_130
  let v350 : BitVec 32 := Scalar.muli v349 c1_i32_130
  let v351 : BitVec 32 := Scalar.addi c0_i32_129 v350
  let v348 : BitVec 32 := Scalar.addi c0_i32_129 v347
  let c1_i32_132 : BitVec 32 := 1#32
  ⟨v351, v348, c1_i32_132⟩
@[reducible] def k0_t6_loop : Scf.Loop 32 :=
  let c1_i32_21 : BitVec 32 := 1#32
  let c17_i32_22 : BitVec 32 := 17#32
  let v55 : BitVec 32 := Scalar.addi c1_i32_21 c17_i32_22
  let c1_i32_23 : BitVec 32 := 1#32
  ⟨c1_i32_21, v55, c1_i32_23⟩
@[reducible] def k0_t7_loop (k0_t6 : Fin k0_t6_loop.trips) : Scf.Loop 32 :=
  let c0_i32_124 : BitVec 32 := 0#32
  let c1_i32_21 : BitVec 32 := 1#32
  let c1_i32_23 : BitVec 32 := 1#32
  let arg5 : BitVec 32 := Scf.iv c1_i32_21 c1_i32_23 k0_t6
  let c10_i32 : BitVec 32 := 10#32
  let v337 : BitVec 32 := Scalar.subi arg5 c10_i32
  let c0_i32_123 : BitVec 32 := 0#32
  let v338 : BitVec 32 := Scalar.maxsi v337 c0_i32_123
  let v339 : BitVec 32 := Scalar.subi v338 c0_i32_124
  let c1_i32_125 : BitVec 32 := 1#32
  let v341 : BitVec 32 := Scalar.divsi v339 c1_i32_125
  let v342 : BitVec 32 := Scalar.muli v341 c1_i32_125
  let v343 : BitVec 32 := Scalar.addi c0_i32_124 v342
  let c1_i32_126 : BitVec 32 := 1#32
  ⟨c0_i32_124, v343, c1_i32_126⟩
@[reducible] def k0_t8_loop (k0_t6 : Fin k0_t6_loop.trips) : Scf.Loop 32 :=
  let c0_i32_124 : BitVec 32 := 0#32
  let c1_i32_21 : BitVec 32 := 1#32
  let c1_i32_23 : BitVec 32 := 1#32
  let arg5 : BitVec 32 := Scf.iv c1_i32_21 c1_i32_23 k0_t6
  let c10_i32 : BitVec 32 := 10#32
  let v337 : BitVec 32 := Scalar.subi arg5 c10_i32
  let c0_i32_123 : BitVec 32 := 0#32
  let v338 : BitVec 32 := Scalar.maxsi v337 c0_i32_123
  let v339 : BitVec 32 := Scalar.subi v338 c0_i32_124
  let c1_i32_125 : BitVec 32 := 1#32
  let v341 : BitVec 32 := Scalar.divsi v339 c1_i32_125
  let v342 : BitVec 32 := Scalar.muli v341 c1_i32_125
  let v343 : BitVec 32 := Scalar.addi c0_i32_124 v342
  let v340 : BitVec 32 := Scalar.addi c0_i32_124 v339
  let c1_i32_127 : BitVec 32 := 1#32
  ⟨v343, v340, c1_i32_127⟩
@[reducible] def k0_t9_loop (k0_t6 : Fin k0_t6_loop.trips) : Scf.Loop 32 :=
  let c0_i32_129 : BitVec 32 := 0#32
  let c1_i32_21 : BitVec 32 := 1#32
  let c1_i32_23 : BitVec 32 := 1#32
  let arg5 : BitVec 32 := Scf.iv c1_i32_21 c1_i32_23 k0_t6
  let c10_i32_128 : BitVec 32 := 10#32
  let v346 : BitVec 32 := Scalar.minsi arg5 c10_i32_128
  let v347 : BitVec 32 := Scalar.subi v346 c0_i32_129
  let c1_i32_130 : BitVec 32 := 1#32
  let v349 : BitVec 32 := Scalar.divsi v347 c1_i32_130
  let v350 : BitVec 32 := Scalar.muli v349 c1_i32_130
  let v351 : BitVec 32 := Scalar.addi c0_i32_129 v350
  let c1_i32_131 : BitVec 32 := 1#32
  ⟨c0_i32_129, v351, c1_i32_131⟩
@[reducible] def k0_t10_loop (k0_t6 : Fin k0_t6_loop.trips) : Scf.Loop 32 :=
  let c0_i32_129 : BitVec 32 := 0#32
  let c1_i32_21 : BitVec 32 := 1#32
  let c1_i32_23 : BitVec 32 := 1#32
  let arg5 : BitVec 32 := Scf.iv c1_i32_21 c1_i32_23 k0_t6
  let c10_i32_128 : BitVec 32 := 10#32
  let v346 : BitVec 32 := Scalar.minsi arg5 c10_i32_128
  let v347 : BitVec 32 := Scalar.subi v346 c0_i32_129
  let c1_i32_130 : BitVec 32 := 1#32
  let v349 : BitVec 32 := Scalar.divsi v347 c1_i32_130
  let v350 : BitVec 32 := Scalar.muli v349 c1_i32_130
  let v351 : BitVec 32 := Scalar.addi c0_i32_129 v350
  let v348 : BitVec 32 := Scalar.addi c0_i32_129 v347
  let c1_i32_132 : BitVec 32 := 1#32
  ⟨v351, v348, c1_i32_132⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "inv_l" => some ((1 / 100 : ℝ) : EReal)
  | _ => none
-- ==== ReferenceIdeal.lean ====
abbrev S100000x3 : Shape := ⟨2, ![100000, 3]⟩
abbrev S3x100 : Shape := ⟨2, ![3, 100]⟩
abbrev S_ : Shape := ⟨0, ![]⟩
abbrev S100 : Shape := ⟨1, ![100]⟩
abbrev S1x100 : Shape := ⟨2, ![1, 100]⟩
abbrev S100000x100 : Shape := ⟨2, ![100000, 100]⟩

abbrev nBuf : Space → Nat
  | .hbm => 208
  | .vmem => 0
  | .smem => 0
  | _ => 0

abbrev hbmTy0_0 (i : Nat) : BufTy := match i % 128 with
  | 0 => ⟨S100000x3, .f32⟩
  | 1 => ⟨S100000x3, .f32⟩
  | 2 => ⟨S3x100, .f32⟩
  | 3 => ⟨S3x100, .f32⟩
  | 4 => ⟨S_, .f32⟩
  | 5 => ⟨S100, .f32⟩
  | 6 => ⟨S1x100, .f32⟩
  | 7 => ⟨S1x100, .f32⟩
  | 8 => ⟨S3x100, .f32⟩
  | 9 => ⟨S3x100, .f32⟩
  | 10 => ⟨S100000x100, .f32⟩
  | 11 => ⟨S100000x100, .f32⟩
  | 12 => ⟨S100000x100, .f32⟩
  | 13 => ⟨S100000x100, .f32⟩
  | 14 => ⟨S100000x100, .f32⟩
  | 15 => ⟨S100000x100, .f32⟩
  | 16 => ⟨S100000x100, .f32⟩
  | 17 => ⟨S100000x100, .f32⟩
  | 18 => ⟨S100000x100, .f32⟩
  | 19 => ⟨S100000x100, .f32⟩
  | 20 => ⟨S100000x100, .f32⟩
  | 21 => ⟨S_, .f32⟩
  | 22 => ⟨S100, .f32⟩
  | 23 => ⟨S_, .f32⟩
  | 24 => ⟨S100, .f32⟩
  | 25 => ⟨S_, .f32⟩
  | 26 => ⟨S100, .f32⟩
  | 27 => ⟨S_, .f32⟩
  | 28 => ⟨S100, .f32⟩
  | 29 => ⟨S_, .f32⟩
  | 30 => ⟨S100, .f32⟩
  | 31 => ⟨S_, .f32⟩
  | 32 => ⟨S100, .f32⟩
  | 33 => ⟨S_, .f32⟩
  | 34 => ⟨S100, .f32⟩
  | 35 => ⟨S_, .f32⟩
  | 36 => ⟨S100, .f32⟩
  | 37 => ⟨S100000x100, .f32⟩
  | 38 => ⟨S_, .f32⟩
  | 39 => ⟨S100, .f32⟩
  | 40 => ⟨S100000x100, .f32⟩
  | 41 => ⟨S_, .f32⟩
  | 42 => ⟨S100, .f32⟩
  | 43 => ⟨S100000x100, .f32⟩
  | 44 => ⟨S_, .f32⟩
  | 45 => ⟨S100, .f32⟩
  | 46 => ⟨S100000x100, .f32⟩
  | 47 => ⟨S_, .f32⟩
  | 48 => ⟨S100, .f32⟩
  | 49 => ⟨S_, .f32⟩
  | 50 => ⟨S100, .f32⟩
  | 51 => ⟨S100, .f32⟩
  | 52 => ⟨S100, .f32⟩
  | 53 => ⟨S_, .f32⟩
  | 54 => ⟨S100, .f32⟩
  | 55 => ⟨S100, .f32⟩
  | 56 => ⟨S_, .f32⟩
  | 57 => ⟨S100, .f32⟩
  | 58 => ⟨S100, .f32⟩
  | 59 => ⟨S100, .f32⟩
  | 60 => ⟨S100, .f32⟩
  | 61 => ⟨S_, .f32⟩
  | 62 => ⟨S100, .f32⟩
  | 63 => ⟨S100, .f32⟩
  | 64 => ⟨S100, .f32⟩
  | 65 => ⟨S100, .f32⟩
  | 66 => ⟨S_, .f32⟩
  | 67 => ⟨S100, .f32⟩
  | 68 => ⟨S100, .f32⟩
  | 69 => ⟨S100, .f32⟩
  | 70 => ⟨S100, .f32⟩
  | 71 => ⟨S_, .f32⟩
  | 72 => ⟨S100, .f32⟩
  | 73 => ⟨S100, .f32⟩
  | 74 => ⟨S100, .f32⟩
  | 75 => ⟨S_, .f32⟩
  | 76 => ⟨S100, .f32⟩
  | 77 => ⟨S100, .f32⟩
  | 78 => ⟨S_, .f32⟩
  | 79 => ⟨S100, .f32⟩
  | 80 => ⟨S100, .f32⟩
  | 81 => ⟨S100, .f32⟩
  | 82 => ⟨S100, .f32⟩
  | 83 => ⟨S_, .f32⟩
  | 84 => ⟨S100, .f32⟩
  | 85 => ⟨S100, .f32⟩
  | 86 => ⟨S100, .f32⟩
  | 87 => ⟨S100, .f32⟩
  | 88 => ⟨S_, .f32⟩
  | 89 => ⟨S100, .f32⟩
  | 90 => ⟨S100, .f32⟩
  | 91 => ⟨S_, .f32⟩
  | 92 => ⟨S100, .f32⟩
  | 93 => ⟨S100, .f32⟩
  | 94 => ⟨S100, .f32⟩
  | 95 => ⟨S100, .f32⟩
  | 96 => ⟨S_, .f32⟩
  | 97 => ⟨S100, .f32⟩
  | 98 => ⟨S100, .f32⟩
  | 99 => ⟨S100, .f32⟩
  | 100 => ⟨S100, .f32⟩
  | 101 => ⟨S100, .f32⟩
  | 102 => ⟨S_, .f32⟩
  | 103 => ⟨S100, .f32⟩
  | 104 => ⟨S100, .f32⟩
  | 105 => ⟨S100, .f32⟩
  | 106 => ⟨S_, .f32⟩
  | 107 => ⟨S100, .f32⟩
  | 108 => ⟨S100, .f32⟩
  | 109 => ⟨S100000x100, .f32⟩
  | 110 => ⟨S100000x100, .f32⟩
  | 111 => ⟨S100000x100, .f32⟩
  | 112 => ⟨S100000x100, .f32⟩
  | 113 => ⟨S100000x100, .f32⟩
  | 114 => ⟨S100000x100, .f32⟩
  | 115 => ⟨S_, .f32⟩
  | 116 => ⟨S100, .f32⟩
  | 117 => ⟨S_, .f32⟩
  | 118 => ⟨S100, .f32⟩
  | 119 => ⟨S_, .f32⟩
  | 120 => ⟨S100, .f32⟩
  | 121 => ⟨S_, .f32⟩
  | 122 => ⟨S100, .f32⟩
  | 123 => ⟨S_, .f32⟩
  | 124 => ⟨S100, .f32⟩
  | 125 => ⟨S_, .f32⟩
  | 126 => ⟨S100, .f32⟩
  | 127 => ⟨S_, .f32⟩
  | _ => ⟨S100000x3, .f32⟩

abbrev hbmTy0_1 (i : Nat) : BufTy := match i % 128 with
  | 0 => ⟨S100, .f32⟩
  | 1 => ⟨S_, .f32⟩
  | 2 => ⟨S100, .f32⟩
  | 3 => ⟨S100000x100, .f32⟩
  | 4 => ⟨S_, .f32⟩
  | 5 => ⟨S100, .f32⟩
  | 6 => ⟨S100000x100, .f32⟩
  | 7 => ⟨S_, .f32⟩
  | 8 => ⟨S100, .f32⟩
  | 9 => ⟨S100000x100, .f32⟩
  | 10 => ⟨S_, .f32⟩
  | 11 => ⟨S100, .f32⟩
  | 12 => ⟨S100000x100, .f32⟩
  | 13 => ⟨S_, .f32⟩
  | 14 => ⟨S100, .f32⟩
  | 15 => ⟨S_, .f32⟩
  | 16 => ⟨S100, .f32⟩
  | 17 => ⟨S100, .f32⟩
  | 18 => ⟨S100, .f32⟩
  | 19 => ⟨S_, .f32⟩
  | 20 => ⟨S100, .f32⟩
  | 21 => ⟨S100, .f32⟩
  | 22 => ⟨S_, .f32⟩
  | 23 => ⟨S100, .f32⟩
  | 24 => ⟨S100, .f32⟩
  | 25 => ⟨S100, .f32⟩
  | 26 => ⟨S100, .f32⟩
  | 27 => ⟨S_, .f32⟩
  | 28 => ⟨S100, .f32⟩
  | 29 => ⟨S100, .f32⟩
  | 30 => ⟨S100, .f32⟩
  | 31 => ⟨S100, .f32⟩
  | 32 => ⟨S_, .f32⟩
  | 33 => ⟨S100, .f32⟩
  | 34 => ⟨S100, .f32⟩
  | 35 => ⟨S100, .f32⟩
  | 36 => ⟨S100, .f32⟩
  | 37 => ⟨S_, .f32⟩
  | 38 => ⟨S100, .f32⟩
  | 39 => ⟨S100, .f32⟩
  | 40 => ⟨S100, .f32⟩
  | 41 => ⟨S_, .f32⟩
  | 42 => ⟨S100, .f32⟩
  | 43 => ⟨S100, .f32⟩
  | 44 => ⟨S_, .f32⟩
  | 45 => ⟨S100, .f32⟩
  | 46 => ⟨S100, .f32⟩
  | 47 => ⟨S100, .f32⟩
  | 48 => ⟨S100, .f32⟩
  | 49 => ⟨S_, .f32⟩
  | 50 => ⟨S100, .f32⟩
  | 51 => ⟨S100, .f32⟩
  | 52 => ⟨S100, .f32⟩
  | 53 => ⟨S100, .f32⟩
  | 54 => ⟨S_, .f32⟩
  | 55 => ⟨S100, .f32⟩
  | 56 => ⟨S100, .f32⟩
  | 57 => ⟨S_, .f32⟩
  | 58 => ⟨S100, .f32⟩
  | 59 => ⟨S100, .f32⟩
  | 60 => ⟨S100, .f32⟩
  | 61 => ⟨S100, .f32⟩
  | 62 => ⟨S_, .f32⟩
  | 63 => ⟨S100, .f32⟩
  | 64 => ⟨S100, .f32⟩
  | 65 => ⟨S100, .f32⟩
  | 66 => ⟨S100, .f32⟩
  | 67 => ⟨S100, .f32⟩
  | 68 => ⟨S_, .f32⟩
  | 69 => ⟨S100, .f32⟩
  | 70 => ⟨S100, .f32⟩
  | 71 => ⟨S100, .f32⟩
  | 72 => ⟨S_, .f32⟩
  | 73 => ⟨S100, .f32⟩
  | 74 => ⟨S100, .f32⟩
  | 75 => ⟨S100, .f32⟩
  | 76 => ⟨S_, .f32⟩
  | 77 => ⟨S_, .f32⟩
  | 78 => ⟨S_, .f32⟩
  | 79 => ⟨S_, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_cst_12 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_13 : Ref sig .tc := ⟨.hbm, 53, rfl⟩
abbrev main_v36 : Ref sig .tc := ⟨.hbm, 54, rfl⟩
abbrev main_v37 : Ref sig .tc := ⟨.hbm, 55, rfl⟩
abbrev main_cst_14 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_15 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_16 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_17 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_18 : Ref sig .tc := ⟨.hbm, 75, rfl⟩
abbrev main_v53 : Ref sig .tc := ⟨.hbm, 76, rfl⟩
abbrev main_v54 : Ref sig .tc := ⟨.hbm, 77, rfl⟩
abbrev main_cst_19 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_20 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_21 : Ref sig .tc := ⟨.hbm, 88, rfl⟩
abbrev main_v63 : Ref sig .tc := ⟨.hbm, 89, rfl⟩
abbrev main_v64 : Ref sig .tc := ⟨.hbm, 90, rfl⟩
abbrev main_cst_22 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_23 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_24 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_25 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_26 : Ref sig .tc := ⟨.hbm, 115, rfl⟩
abbrev main_v85 : Ref sig .tc := ⟨.hbm, 116, rfl⟩
abbrev main_cst_27 : Ref sig .tc := ⟨.hbm, 117, rfl⟩
abbrev main_v86 : Ref sig .tc := ⟨.hbm, 118, rfl⟩
abbrev main_cst_28 : Ref sig .tc := ⟨.hbm, 119, rfl⟩
abbrev main_v87 : Ref sig .tc := ⟨.hbm, 120, rfl⟩
abbrev main_cst_29 : Ref sig .tc := ⟨.hbm, 121, rfl⟩
abbrev main_v88 : Ref sig .tc := ⟨.hbm, 122, rfl⟩
abbrev main_cst_30 : Ref sig .tc := ⟨.hbm, 123, rfl⟩
abbrev main_v89 : Ref sig .tc := ⟨.hbm, 124, rfl⟩
abbrev main_cst_31 : Ref sig .tc := ⟨.hbm, 125, rfl⟩
abbrev main_v90 : Ref sig .tc := ⟨.hbm, 126, rfl⟩
abbrev main_cst_32 : Ref sig .tc := ⟨.hbm, 127, rfl⟩
abbrev main_v91 : Ref sig .tc := ⟨.hbm, 128, rfl⟩
abbrev main_cst_33 : Ref sig .tc := ⟨.hbm, 129, rfl⟩
abbrev main_v92 : Ref sig .tc := ⟨.hbm, 130, rfl⟩
abbrev main_v93 : Ref sig .tc := ⟨.hbm, 131, rfl⟩
abbrev main_cst_34 : Ref sig .tc := ⟨.hbm, 132, rfl⟩
abbrev main_v94 : Ref sig .tc := ⟨.hbm, 133, rfl⟩
abbrev main_v95 : Ref sig .tc := ⟨.hbm, 134, rfl⟩
abbrev main_cst_35 : Ref sig .tc := ⟨.hbm, 135, rfl⟩
abbrev main_v96 : Ref sig .tc := ⟨.hbm, 136, rfl⟩
abbrev main_v97 : Ref sig .tc := ⟨.hbm, 137, rfl⟩
abbrev main_cst_36 : Ref sig .tc := ⟨.hbm, 138, rfl⟩
abbrev main_v98 : Ref sig .tc := ⟨.hbm, 139, rfl⟩
abbrev main_v99 : Ref sig .tc := ⟨.hbm, 140, rfl⟩
abbrev main_cst_37 : Ref sig .tc := ⟨.hbm, 141, rfl⟩
abbrev main_v100 : Ref sig .tc := ⟨.hbm, 142, rfl⟩
abbrev main_cst_38 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_39 : Ref sig .tc := ⟨.hbm, 147, rfl⟩
abbrev main_v104 : Ref sig .tc := ⟨.hbm, 148, rfl⟩
abbrev main_v105 : Ref sig .tc := ⟨.hbm, 149, rfl⟩
abbrev main_cst_40 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_41 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_42 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_43 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_44 : Ref sig .tc := ⟨.hbm, 169, rfl⟩
abbrev main_v121 : Ref sig .tc := ⟨.hbm, 170, rfl⟩
abbrev main_v122 : Ref sig .tc := ⟨.hbm, 171, rfl⟩
abbrev main_cst_45 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_46 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_cst_47 : Ref sig .tc := ⟨.hbm, 182, rfl⟩
abbrev main_v131 : Ref sig .tc := ⟨.hbm, 183, rfl⟩
abbrev main_v132 : Ref sig .tc := ⟨.hbm, 184, rfl⟩
abbrev main_cst_48 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_cst_49 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_50 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_51 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_cst_52 : Ref sig .tc := ⟨.hbm, 204, rfl⟩
abbrev main_v148 : Ref sig .tc := ⟨.hbm, 205, rfl⟩
abbrev main_cst_53 : Ref sig .tc := ⟨.hbm, 206, rfl⟩
abbrev main_v149 : Ref sig .tc := ⟨.hbm, 207, rfl⟩

abbrev nD : Nat := 1
abbrev τ : Topo := Topo.v7x

variable {F : FTy → Type} [FloatOps F]
-- ==== Proof.KI.Run.lean ====
module

public import proofs.«01_k».proof.Proof.Gen.KernelIdeal.Frame
public import proofs.«01_k».proof.Proof.Gen.KernelIdeal.Skeleton
public import Idealize.ShloMosaic.Lib.Tactic
public import Idealize.ShloMosaic.Lib.Exec
public import Idealize.ShloMosaic.Lib.VecWindow

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The resource algebra of the run: the frame kit's. -/
local notation "𝕄" => MT nD τ sig Unit (Elt F) ℕ (UR sig nD τ) ℕ

/-- No variants are tracked. -/
abbrev 𝒱₀ : Variants := Variants.none

variable (m : (ℓ : Loc nD τ sig) → Buf (Elt F) ℓ) (ρ : Dev nD → PrngReg)

/-! ## The two sorts as folds -/

/-- One phase of the first sort: the lane passes (a doubled loop and its remainder), then the row passes. -/
def phaseA (v0 v1 v4 : IVec S1024x128 32) (p : Fin k0_t1_loop.trips) (x : FVec F S1024x128 .f32) : FVec F S1024x128 .f32 :=
  Scf.fold (fun q => k0_pay21 v0 v4 p q) (Scf.fold (fun q => k0_pay20 v0 v4 p q)
    (Scf.fold (fun q => k0_pay19 v1 v4 p q) (Scf.fold (fun q => k0_pay18 v1 v4 p q) x)))

/-- One phase of the second sort. -/
def phaseB (v0 v1 v4 : IVec S1024x128 32) (p : Fin k0_t6_loop.trips) (x : FVec F S1024x128 .f32) : FVec F S1024x128 .f32 :=
  Scf.fold (fun q => k0_pay26 v0 v4 p q) (Scf.fold (fun q => k0_pay25 v0 v4 p q)
    (Scf.fold (fun q => k0_pay24 v1 v4 p q) (Scf.fold (fun q => k0_pay23 v1 v4 p q) x)))

section loops
variable (i : grid0.Coords) (arg1 : Memref sig .tc .vmem S3x1024x128 .f32) (harg1 : arg1.IsWhole)
  (arg2 : Memref sig .tc .vmem S3x1024x128 .f32) (harg2 : arg2.IsWhole) (arg3 : Memref sig .tc .vmem S1x1x128 .f32) (harg3 : arg3.IsWhole)
  (arg4 : Memref sig .tc .vmem S1x1 .f32) (harg4 : arg4.IsWhole) (v0 v1 v4 : IVec S1024x128 32) (v6 : IVec S1024x128 1)
  (v19 v20 : FVec F S1x1 .f32) (v34 v38 : FVec F S1024x128 .f32)

/-- The first sort's loop issues nothing: it is the return of the fold of its phases. -/
theorem forA (init : FVec F S1024x128 .f32) :
    Scf.Loop.for k0_t1_loop k0_t1_ok init
      (k0_t1_body (F := F) i arg1 harg1 arg2 harg2 arg3 harg3 arg4 harg4 v0 v1 v4 v6 v19 v20 v34 v38)
      = .ret (Scf.fold (phaseA v0 v1 v4) init) := by
  refine Scf.for_pure _ _ _ _ _ _ _ fun p acc => ?_
  unfold k0_t1_body phaseA
  refine (Scf.for_pure_bind _ _ _ _ _ _ (fun q => k0_pay18 (F := F) v1 v4 p q) (fun _ _ => rfl) _).trans ?_
  refine (Scf.for_pure_bind _ _ _ _ _ _ (fun q => k0_pay19 (F := F) v1 v4 p q) (fun _ _ => rfl) _).trans ?_
  refine (Scf.for_pure_bind _ _ _ _ _ _ (fun q => k0_pay20 (F := F) v0 v4 p q) (fun _ _ => rfl) _).trans ?_
  exact Scf.for_pure _ _ _ _ _ _ (fun q => k0_pay21 (F := F) v0 v4 p q) (fun _ _ => rfl)

/-- The second sort's loop, in the same way. -/
theorem forB (init : FVec F S1024x128 .f32) :
    Scf.Loop.for k0_t6_loop k0_t6_ok init
      (k0_t6_body (F := F) i arg1 harg1 arg2 harg2 arg3 harg3 arg4 harg4 v0 v1 v4 v6 v19 v20 v34 v38)
      = .ret (Scf.fold (phaseB v0 v1 v4) init) := by
  refine Scf.for_pure _ _ _ _ _ _ _ fun p acc => ?_
  unfold k0_t6_body phaseB
  refine (Scf.for_pure_bind _ _ _ _ _ _ (fun q => k0_pay23 (F := F) v1 v4 p q) (fun _ _ => rfl) _).trans ?_
  refine (Scf.for_pure_bind _ _ _ _ _ _ (fun q => k0_pay24 (F := F) v1 v4 p q) (fun _ _ => rfl) _).trans ?_
  refine (Scf.for_pure_bind _ _ _ _ _ _ (fun q => k0_pay25 (F := F) v0 v4 p q) (fun _ _ => rfl) _).trans ?_
  exact Scf.for_pure _ _ _ _ _ _ (fun q => k0_pay26 (F := F) v0 v4 p q) (fun _ _ => rfl)

end loops

/-! ## The value a point adds -/

/-- The row numbers. -/
def rowI : IVec S1024x128 32 := iota .tc S1024x128 32 [0] iota_S1024x128_d0_w32
/-- The lane numbers. -/
def laneI : IVec S1024x128 32 := iota .tc S1024x128 32 [1] iota_S1024x128_d1_w32

/-- The first cloud's projections, sorted. -/
def sortedA (v7 : Vec F S1x1x128 .f32) (v21 v25 v30 : Vec F S1x1024x128 .f32) : FVec F S1024x128 .f32 :=
  Scf.fold (phaseA rowI laneI k0_pay3) (k0_pay15 k0_pay4 (k0_pay13 v7 v21 v25 v30))

/-- The second cloud's projections, sorted. -/
def sortedB (v7 : Vec F S1x1x128 .f32) (v35 v39 v44 : Vec F S1x1024x128 .f32) : FVec F S1024x128 .f32 :=
  Scf.fold (phaseB rowI laneI k0_pay3) (k0_pay16 k0_pay4 (k0_pay11 v7) (k0_pay12 v7) (k0_pay14 v7 v35) v39 v44)

/-- The exchange of `b` end for end, moved so that the descending order begins at position zero, and masked. -/
def descB (b : FVec F S1024x128 .f32) : FVec F S1024x128 .f32 :=
  k0_pay34 rowI laneI k0_pay4
    (k0_pay30 rowI laneI (k0_pay29 rowI (k0_pay27 rowI b) (k0_pay28 rowI) 4#32) 256#32) (k0_pay31 laneI)

/-- The smaller of the two orders' costs, from the three masked tiles and the square of the first. -/
def costOf (am bm dm a2 : FVec F S1024x128 .f32) : F .f32 :=
  k0_pay49 am dm a2 (k0_pay37 dm) (k0_pay38 am) (k0_pay39 a2) (k0_pay40 bm) (k0_pay41 bm)
    (k0_pay44 am a2)
    (k0_pay45 (k0_pay40 bm) (k0_pay41 bm) (k0_pay42 bm) (k0_pay43 bm) (Scalar.ofBits .f32 0x40000000#32) (Scalar.ofBits .f32 0x47C35000#32))
    k0_pay46
    (k0_pay47 am bm a2 (k0_pay36 bm) (k0_pay38 am) (k0_pay39 a2) (k0_pay40 bm) (k0_pay41 bm))
    (k0_pay48 (k0_pay40 bm) (k0_pay41 bm) (k0_pay42 bm) (k0_pay43 bm) (k0_pay44 am a2)
      (Scalar.ofBits .f32 0x40000000#32) (Scalar.ofBits .f32 0x47C35000#32))

/-- What a point adds to the total, from what it loads. -/
def addend (v7 : Vec F S1x1x128 .f32) (v21 v25 v30 v35 v39 v44 : Vec F S1x1024x128 .f32) : F .f32 :=
  costOf (k0_pay32 k0_pay4 (sortedA v7 v21 v25 v30)) (k0_pay33 k0_pay4 (sortedB v7 v35 v39 v44))
    (descB (sortedB v7 v35 v39 v44)) (k0_pay35 k0_pay4 (sortedA v7 v21 v25 v30))

section flat
variable (i : grid0.Coords) (arg1 : Memref sig .tc .vmem S3x1024x128 .f32) (harg1 : arg1.IsWhole)
  (arg2 : Memref sig .tc .vmem S3x1024x128 .f32) (harg2 : arg2.IsWhole) (arg3 : Memref sig .tc .vmem S1x1x128 .f32) (harg3 : arg3.IsWhole)
  (arg4 : Memref sig .tc .vmem S1x1 .f32) (harg4 : arg4.IsWhole)

/-- The body with its loops replaced by their folds and its pure parts by `addend`. -/
def flatBody : Prog (TpuEff nD τ sig (Elt F) Λ₀ .tc) PUnit := do
  let v7 : Vec F S1x1x128 .f32 ← Prog.lift (.load arg3 (Rect.unit (s := S1x1x128) ![0, 0, 0] S1x1x128.size inb_S1x1x128_S1x1x128_0_0_0).toLoadRect (View.loadsAt_vmem h_S1x1x128))
  let v21 : Vec F S1x1024x128 .f32 ← Prog.lift (.load arg1 (Rect.unit (s := S3x1024x128) ![0, 0, 0] S1x1024x128.size inb_S3x1024x128_S1x1024x128_0_0_0).toLoadRect (View.loadsAt_vmem h_S1x1024x128))
  let v25 : Vec F S1x1024x128 .f32 ← Prog.lift (.load arg1 (Rect.unit (s := S3x1024x128) ![1, 0, 0] S1x1024x128.size inb_S3x1024x128_S1x1024x128_1_0_0).toLoadRect (View.loadsAt_vmem h_S1x1024x128))
  let v30 : Vec F S1x1024x128 .f32 ← Prog.lift (.load arg1 (Rect.unit (s := S3x1024x128) ![2, 0, 0] S1x1024x128.size inb_S3x1024x128_S1x1024x128_2_0_0).toLoadRect (View.loadsAt_vmem h_S1x1024x128))
  let v35 : Vec F S1x1024x128 .f32 ← Prog.lift (.load arg2 (Rect.unit (s := S3x1024x128) ![0, 0, 0] S1x1024x128.size inb_S3x1024x128_S1x1024x128_0_0_0).toLoadRect (View.loadsAt_vmem h_S1x1024x128))
  let v39 : Vec F S1x1024x128 .f32 ← Prog.lift (.load arg2 (Rect.unit (s := S3x1024x128) ![1, 0, 0] S1x1024x128.size inb_S3x1024x128_S1x1024x128_1_0_0).toLoadRect (View.loadsAt_vmem h_S1x1024x128))
  let v44 : Vec F S1x1024x128 .f32 ← Prog.lift (.load arg2 (Rect.unit (s := S3x1024x128) ![2, 0, 0] S1x1024x128.size inb_S3x1024x128_S1x1024x128_2_0_0).toLoadRect (View.loadsAt_vmem h_S1x1024x128))
  if k0_h1 : Scalar.cmpi .ne (Scalar.extui (Scalar.cmpi .eq (BitVec.ofNat 32 (i 0).val) 0#32) : BitVec 32) 0#32 = 1#1 then do
    let v333 : Vec F S1x1 .f32 ← Prog.lift (.load arg4 (Rect.unit (s := S1x1) ![0, 0] S1x1.size inb_S1x1_S1x1_0_0).toLoadRect (View.loadsAt_vmem h_S1x1))
    Prog.lift (.store arg4 (Rect.unit (s := S1x1) ![0, 0] S1x1.size inb_S1x1_S1x1_0_0) (k0_pay1 (F := F)) Finset.univ (View.stores_vmem_bits_univ h_S1x1 rfl) (.inl rfl))
    pure ⟨⟩
  else do
    pure ⟨⟩
  let v327 : Vec F S1x1 .f32 ← Prog.lift (.load arg4 (Rect.unit (s := S1x1) ![0, 0] S1x1.size inb_S1x1_S1x1_0_0).toLoadRect (View.loadsAt_vmem h_S1x1))
  let v331 : Vec F S1x1 .f32 ← Prog.lift (.load arg4 (Rect.unit (s := S1x1) ![0, 0] S1x1.size inb_S1x1_S1x1_0_0).toLoadRect (View.loadsAt_vmem h_S1x1))
  Prog.lift (.store arg4 (Rect.unit (s := S1x1) ![0, 0] S1x1.size inb_S1x1_S1x1_0_0) (k0_pay2 (addend v7 v21 v25 v30 v35 v39 v44) v327) Finset.univ (View.stores_vmem_bits_univ h_S1x1 rfl) (.inl rfl))
  pure ⟨⟩

set_option maxRecDepth 65536 in
/-- The body is its flat form. -/
theorem body_eq_flat : cc0__body (F := F) i arg1 harg1 arg2 harg2 arg3 harg3 arg4 harg4
    = flatBody i arg1 arg2 arg3 arg4 := by
  rw [cc0__body_eq_skeleton]
  unfold cc0__body_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part2_skel, forA, forB]
  rfl

end flat

/-! ## The body's run -/

/-- What a point adds to the total, from its three blocks. -/
def pointAdd (x0 x1 : Vec F S3x1024x128 .f32) (x2 : Vec F S1x1x128 .f32) : F .f32 :=
  addend (View.ld x2 (Rect.unit (s := S1x1x128) ![0, 0, 0] S1x1x128.size inb_S1x1x128_S1x1x128_0_0_0))
    (View.ld x0 (Rect.unit (s := S3x1024x128) ![0, 0, 0] S1x1024x128.size inb_S3x1024x128_S1x1024x128_0_0_0))
    (View.ld x0 (Rect.unit (s := S3x1024x128) ![1, 0, 0] S1x1024x128.size inb_S3x1024x128_S1x1024x128_1_0_0))
    (View.ld x0 (Rect.unit (s := S3x1024x128) ![2, 0, 0] S1x1024x128.size inb_S3x1024x128_S1x1024x128_2_0_0))
    (View.ld x1 (Rect.unit (s := S3x1024x128) ![0, 0, 0] S1x1024x128.size inb_S3x1024x128_S1x1024x128_0_0_0))
    (View.ld x1 (Rect.unit (s := S3x1024x128) ![1, 0, 0] S1x1024x128.size inb_S3x1024x128_S1x1024x128_1_0_0))
    (View.ld x1 (Rect.unit (s := S3x1024x128) ![2, 0, 0] S1x1024x128.size inb_S3x1024x128_S1x1024x128_2_0_0))

/-- The body's test for the first point. -/
abbrev firstBit (i : grid0.Coords) : BitVec 1 :=
  Scalar.cmpi .ne (Scalar.extui (Scalar.cmpi .eq (BitVec.ofNat 32 (i 0).val) 0#32) : BitVec 32) 0#32

/-- At a point that is not the first, the body adds the point's value to the total it finds. -/
theorem run_later (c : Dev nD) (i : grid0.Coords)
    (M0 : Memref sig .tc .vmem S3x1024x128 .f32) (h0 : M0.IsWhole)
    (M1 : Memref sig .tc .vmem S3x1024x128 .f32) (h1 : M1.IsWhole) (M2 : Memref sig .tc .vmem S1x1x128 .f32) (h2 : M2.IsWhole)
    (M3 : Memref sig .tc .vmem S1x1 .f32) (h3 : M3.IsWhole)
    (x0 x1 : Vec F S3x1024x128 .f32) (x2 : Vec F S1x1x128 .f32) (x3 : Vec F S1x1 .f32)
    (E : Set ℕ) (K : PUnit → sProp 𝕄) (hc : firstBit i ≠ 1#1) :
    iprop(owns (c : Thread nD τ) M0 fullShare x0 ∗ owns (c : Thread nD τ) M1 fullShare x1 ∗ owns (c : Thread nD τ) M2 fullShare x2
        ∗ owns (c : Thread nD τ) M3 fullShare x3
        ∗ (iprop(owns (c : Thread nD τ) M0 fullShare x0 ∗ owns (c : Thread nD τ) M1 fullShare x1 ∗ owns (c : Thread nD τ) M2 fullShare x2
            ∗ owns (c : Thread nD τ) M3 fullShare (k0_pay2 (pointAdd x0 x1 x2) x3)) -∗ K ⟨⟩))
      ⊢ wp frame (wpE (defs₀ (F := F)) 𝒱₀ c none) E (cc0__body i M0 h0 M1 h1 M2 h2 M3 h3) K := by
  unfold owns
  iintro ⟨⟨%f0, %hf0, H0⟩, ⟨%f1, %hf1, H1⟩, ⟨%f2, %hf2, H2⟩, ⟨%f3, %hf3, H3⟩, Hk⟩
  obtain rfl := h0.eq_unread hf0; obtain rfl := h1.eq_unread hf1; obtain rfl := h2.eq_unread hf2; obtain rfl := h3.eq_unread hf3
  rw [body_eq_flat]
  unfold flatBody
  sl_exec! (disch := sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  iexists _; isplitr; swap; · iexact H3
  ipureintro
  refine (View.read_writes_full _ _ _ _ _).trans ?_
  rw [View.readAt_full M3.view, hf3]
  simp only [View.readAt_eq_ld, hf0, hf1, hf2]
  rfl

/-- At the first point, the body leaves the point's value added to zero, whatever it finds. -/
theorem run_first (c : Dev nD) (i : grid0.Coords)
    (M0 : Memref sig .tc .vmem S3x1024x128 .f32) (h0 : M0.IsWhole)
    (M1 : Memref sig .tc .vmem S3x1024x128 .f32) (h1 : M1.IsWhole) (M2 : Memref sig .tc .vmem S1x1x128 .f32) (h2 : M2.IsWhole)
    (M3 : Memref sig .tc .vmem S1x1 .f32) (h3 : M3.IsWhole)
    (x0 x1 : Vec F S3x1024x128 .f32) (x2 : Vec F S1x1x128 .f32) (x3 : Vec F S1x1 .f32)
    (E : Set ℕ) (K : PUnit → sProp 𝕄) (hc : firstBit i = 1#1) :
    iprop(owns (c : Thread nD τ) M0 fullShare x0 ∗ owns (c : Thread nD τ) M1 fullShare x1 ∗ owns (c : Thread nD τ) M2 fullShare x2
        ∗ owns (c : Thread nD τ) M3 fullShare x3
        ∗ (iprop(owns (c : Thread nD τ) M0 fullShare x0 ∗ owns (c : Thread nD τ) M1 fullShare x1 ∗ owns (c : Thread nD τ) M2 fullShare x2
            ∗ owns (c : Thread nD τ) M3 fullShare (k0_pay2 (pointAdd x0 x1 x2) k0_pay1)) -∗ K ⟨⟩))
      ⊢ wp frame (wpE (defs₀ (F := F)) 𝒱₀ c none) E (cc0__body i M0 h0 M1 h1 M2 h2 M3 h3) K := by
  unfold owns
  iintro ⟨⟨%f0, %hf0, H0⟩, ⟨%f1, %hf1, H1⟩, ⟨%f2, %hf2, H2⟩, ⟨%f3, %hf3, H3⟩, Hk⟩
  obtain rfl := h0.eq_unread hf0; obtain rfl := h1.eq_unread hf1; obtain rfl := h2.eq_unread hf2; obtain rfl := h3.eq_unread hf3
  rw [body_eq_flat]
  unfold flatBody
  sl_exec! (disch := sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  iexists _; isplitr; swap; · iexact H3
  ipureintro
  refine (View.read_writes_full _ _ _ _ _).trans ?_
  rw [show run_first.sl.v327 (F := F) c M3 = k0_pay1 from View.readCov_full _ _ _ _ _]
  simp only [View.readAt_eq_ld, hf0, hf1, hf2]
  rfl

/-! ## The staging memrefs at a point -/

/-- The first cloud's staging buffer of a grid point. -/
abbrev ms0_0 (t : Fin cfg0.N) : Memref sig .tc .vmem S3x1024x128 .f32 := win0_0.stage (cfg0.slots t 0)
/-- The second cloud's staging buffer of a grid point. -/
abbrev ms0_1 (t : Fin cfg0.N) : Memref sig .tc .vmem S3x1024x128 .f32 := win0_1.stage (cfg0.slots t 1)
/-- The direction's staging buffer of a grid point. -/
abbrev ms0_2 (t : Fin cfg0.N) : Memref sig .tc .vmem S1x1x128 .f32 := win0_2.stage (cfg0.slots t 2)
/-- The result's staging buffer of a grid point. -/
abbrev ms0_3 (t : Fin cfg0.N) : Memref sig .tc .vmem S1x1 .f32 := win0_3.stage (cfg0.slots t 3)

/-- What the point adds, at the blocks the pipeline stages for it. -/
def addAt (c : Dev nD) (t : Fin cfg0.N) : F .f32 := pointAdd (iblk m c 0 t) (iblk m c 1 t) (iblk m c 2 t)

/-- The running total after point `n`. -/
def totAt (c : Dev nD) : (n : ℕ) → n < cfg0.N → Vec F S1x1 .f32
  | 0, h => k0_pay2 (addAt m c ⟨0, h⟩) k0_pay1
  | n + 1, h => k0_pay2 (addAt m c ⟨n + 1, h⟩) (totAt c n (Nat.lt_of_succ_lt h))

/-- The arrays as the region finds them; after the body each input's buffer at its block and the result's at the
    running total; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => totAt m c t.val t.isLt
  Φ _ := Pipeline.ΦA spec0 c
  q _ := fullShare
  owed _ := 0

/-- Each window starts from its array. -/
theorem A_eq (c : Dev nD) (w : Fin cfg0.W) : (dats m 0 c).A w = V m c (Pipeline.arrRef spec0 w) := rfl
/-- A point leaves the first cloud's block as it was. -/
theorem after0_0 (c : Dev nD) (t : Fin cfg0.N) : (dats m 0 c).after 0 t = iblk m c 0 t := by dsimp only [dats]
/-- A point leaves the second cloud's block as it was. -/
theorem after0_1 (c : Dev nD) (t : Fin cfg0.N) : (dats m 0 c).after 1 t = iblk m c 1 t := by dsimp only [dats]
/-- A point leaves the direction's block as it was. -/
theorem after0_2 (c : Dev nD) (t : Fin cfg0.N) : (dats m 0 c).after 2 t = iblk m c 2 t := by dsimp only [dats]
/-- A point leaves the running total in the result's block. -/
theorem after0_3 (c : Dev nD) (t : Fin cfg0.N) : (dats m 0 c).after 3 t = totAt m c t.val t.isLt := by dsimp only [dats]

/-- A point finds the first cloud's block. -/
theorem before0_0 (c : Dev nD) (t : Fin cfg0.N) (d) : (dats m 0 c).before 0 t d = iblk m c 0 t :=
  before0_0_of m (dats m 0 c) (A_eq m c 0) (after0_0 m c) t d
/-- A point finds the second cloud's block. -/
theorem before0_1 (c : Dev nD) (t : Fin cfg0.N) (d) : (dats m 0 c).before 1 t d = iblk m c 1 t :=
  before0_1_of m (dats m 0 c) (A_eq m c 1) (after0_1 m c) t d
/-- A point finds the direction's block. -/
theorem before0_2 (c : Dev nD) (t : Fin cfg0.N) (d) : (dats m 0 c).before 2 t d = iblk m c 2 t :=
  before0_2_of m (dats m 0 c) (A_eq m c 2) (after0_2 m c) t d

/-- Past the first point the result's buffer holds the running total of the point before. -/
theorem before0_3 (c : Dev nD) (t : Fin cfg0.N) (ht : t.val ≠ 0) (d) :
    (dats m 0 c).before 3 t d = totAt m c (t.val - 1) (Nat.lt_of_le_of_lt (Nat.sub_le _ _) t.isLt) := by
  refine ((dats m 0 c).before_out_kept 3 rfl t ht ?_ (fun _ => rfl) (fun _ _ => rfl) d).trans (after0_3 m c _)
  have h : ¬ (cfg0.win 3).flush ⟨t.val - 1, Nat.lt_of_le_of_lt (Nat.sub_le _ _) t.isLt⟩ = true := fun hf => by
    have h1 := (flush0_3 _).mp hf
    have h2 : t.val < 100 := lt_of_lt_of_eq t.isLt (by decide)
    dsimp only at h1
    omega
  exact Bool.eq_false_iff.mpr h

/-- The first coordinate of a point is its number. -/
theorem firstBit_iff (t : Fin cfg0.N) : firstBit (cfg0.grid.coords t) = 1#1 ↔ t.val = 0 := by
  have h : ∀ t : Fin 100, firstBit (cfg0.grid.coords t) = 1#1 ↔ t.val = 0 := by decide
  exact h t

/-! ## The body obligation -/

/-- At every point the body takes the staged blocks and the running total to the running total of the point. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3]
  by_cases ht : t.val = 0
  · have htot : totAt m c t.val t.isLt = k0_pay2 (pointAdd (iblk m c 0 t) (iblk m c 1 t) (iblk m c 2 t)) k0_pay1 := by
      obtain ⟨n, hn⟩ := t; obtain rfl : n = 0 := ht; rfl
    rw [htot]
    iintro ⟨HΦ, Ho, ⟨%d0, H0⟩, ⟨%d1, H1⟩, ⟨%d2, H2⟩, ⟨%d3, H3⟩⟩
    iapply (run_first c _ _ _ _ _ _ _ _ _ (iblk m c 0 t) (iblk m c 1 t) (iblk m c 2 t) _ Set.univ _ ((firstBit_iff t).mpr ht))
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have htot : totAt m c t.val t.isLt = k0_pay2 (pointAdd (iblk m c 0 t) (iblk m c 1 t) (iblk m c 2 t))
        (totAt m c (t.val - 1) (Nat.lt_of_le_of_lt (Nat.sub_le _ _) t.isLt)) := by
      obtain ⟨n, hn⟩ := t
      match n, hn, ht with
      | n + 1, hn, _ => rfl
    rw [htot]
    simp only [before0_3 m c t ht]
    iintro ⟨HΦ, Ho, ⟨%d0, H0⟩, ⟨%d1, H1⟩, ⟨%d2, H2⟩, ⟨%d3, H3⟩⟩
    iapply (run_later c _ _ _ _ _ _ _ _ _ (iblk m c 0 t) (iblk m c 1 t) (iblk m c 2 t) _ Set.univ _
      (fun h => ht ((firstBit_iff t).mp h)))
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-! ## The run and the frame -/

set_option backward.isDefEq.respectTransparency.types false in
/-- From any memory with zero counters, every execution ends with the pipeline's arrays at what the running totals
    leave in them, the host's last lines run on them, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := fun _ _ => rfl) (hΦ := fun _ _ => rfl)

/-- The arguments end as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main (F := F) m ρ)

end Cert.Proof.KI

end
-- ==== Proof.Value.Exchange.lean ====
module

public import proofs.«01_k».proof.Proof.KI.Run
public import Idealize.ShloMosaic.Lib.KernelVsHost
public import Idealize.ShloMosaic.Lib.SortNet.Sorts
public import Mathlib.Data.Nat.Bitwise

@[expose] public section

noncomputable section

namespace Cert.Proof.Value

open Cert.KernelIdeal Cert.KernelIdeal.Gen Cert.Proof.KI
open Idealize.ShloMosaic Idealize.ShloMosaic.SortNet
open Idealize.ShloMosaic.ValueIdx (ix2)

/-! ## Positions of a tile -/

/-- Position `i` of the padded sequence lies in row `i mod 1024` of lane `i / 1024`. -/
def at' (i : Fin (2 ^ 17)) : S1024x128.Idx :=
  ix2 ⟨i.val % 1024, Nat.mod_lt _ (by decide)⟩ ⟨i.val / 1024, by have := i.isLt; omega⟩

/-- A tile as the sequence it holds. -/
def seq (x : FVec Ideal S1024x128 .f32) : Fin (2 ^ 17) → EReal := fun i => x (at' i)

/-- Below the tenth bit a position's bits are its row's. -/
theorem bit_row {s : Nat} (hs : s < 10) (n : Nat) : n % 1024 &&& 2 ^ s = n &&& 2 ^ s := by
  have e : (1024 : Nat) = 2 ^ 10 := by norm_num
  rw [Nat.and_two_pow, Nat.and_two_pow, e, Nat.testBit_mod_two_pow]
  simp [hs]

/-- From the tenth bit on a position's bits are its lane's. -/
theorem bit_lane {s : Nat} (n : Nat) : n / 1024 &&& 2 ^ s = 0 ↔ n &&& 2 ^ (10 + s) = 0 := by
  have e : (1024 : Nat) = 2 ^ 10 := by norm_num
  rw [Nat.and_two_pow, Nat.and_two_pow, e, Nat.testBit_div_two_pow, Nat.add_comm s 10]
  cases n.testBit (10 + s) <;> simp

/-- Whether a word has a given bit, of a word that holds a small number. -/
theorem word_bit {n s : Nat} (hn : n < 2 ^ 32) (hs : s < 32) :
    (BitVec.ofNat 32 n &&& BitVec.ofNat 32 (2 ^ s)) = 0#32 ↔ n &&& 2 ^ s = 0 := by
  have h2 : 2 ^ s < 2 ^ 32 := Nat.pow_lt_pow_right (by decide) hs
  rw [← BitVec.toNat_inj]
  simp only [BitVec.toNat_and, BitVec.toNat_ofNat, Nat.mod_eq_of_lt hn, Nat.mod_eq_of_lt h2]

/-! ## Moving a tile by one bit of the position -/

/-- The tile read at the position whose bit is flipped: a rotation one way where the bit is set, the other way where not. -/
def flip (a : Fin S1024x128.rank) (h : S1024x128.Rotates a none) (idx : IVec S1024x128 32) (t u : BitVec 32)
    (x : FVec Ideal S1024x128 .f32) : FVec Ideal S1024x128 .f32 :=
  select (cmpi .ne (andi idx (broadcast S1024x128 t)) (broadcast S1024x128 0#32)) (dynamicRotate a t none x h)
    (dynamicRotate a u none x h)

/-- What the mask of a flip is at a position. -/
theorem mask_apply (idx : IVec S1024x128 32) (j : S1024x128.Idx) {n s : Nat} (hn : n < 2 ^ 32) (hs : s < 32)
    (hj : idx j = BitVec.ofNat 32 n) :
    cmpi .ne (andi idx (broadcast S1024x128 (BitVec.ofNat 32 (2 ^ s)))) (broadcast S1024x128 0#32) j
      = BitVec.ofBool (decide (n &&& 2 ^ s ≠ 0)) := by
  have h := word_bit hn hs
  simp only [cmpi, andi, IntOp.andi, broadcast, IntOp.cmpi, hj]
  by_cases h0 : n &&& 2 ^ s = 0
  · simp [h0, h.mpr h0]
  · have := mt h.mp h0
    simp [h0, bne_iff_ne.mpr this]

/-- The row number at a position. -/
theorem rowI_apply (i : Fin (2 ^ 17)) : rowI (at' i) = BitVec.ofNat 32 (i.val % 1024) := by
  simp [rowI, iota, at']

/-- The lane number at a position. -/
theorem laneI_apply (i : Fin (2 ^ 17)) : laneI (at' i) = BitVec.ofNat 32 (i.val / 1024) := by
  simp [laneI, iota, at']

/-- A flip along the rows reads the partner at the bit's distance. -/
theorem flip_row {s : Nat} (hs : s < 10) (x : FVec Ideal S1024x128 .f32) (t u : BitVec 32)
    (ht : t = BitVec.ofNat 32 (2 ^ s)) (hu : u = BitVec.ofNat 32 (1024 - 2 ^ s)) (i : Fin (2 ^ 17)) :
    flip 0 rotates_S1024x128_d0 rowI t u x (at' i) = seq x (partner 17 s i) := by
  have h2 : 2 ^ s < 1024 := by simpa using (Nat.pow_lt_pow_right (by decide) hs : 2 ^ s < 2 ^ 10)
  have h2' : 0 < 2 ^ s := Nat.two_pow_pos s
  have hm := mask_apply rowI (at' i) (n := i.val % 1024) (s := s) (by omega) (by omega) (rowI_apply i)
  have hr := bit_row hs i.val
  let r : Fin (2 ^ 10) := ⟨i.val % 1024, Nat.mod_lt _ (by decide)⟩
  unfold flip seq
  rw [ht, hu]
  show Scalar.select _ _ _ = _
  rw [hm]
  by_cases h0 : i.val % 1024 &&& 2 ^ s = 0
  · have e1 := partner_val_of_clear (p := 17) (s := s) (by omega) i (hr ▸ h0)
    have e2 := partner_val_of_clear (p := 10) hs r h0
    have e3 := (partner 10 s r).isLt
    have hrv : r.val = i.val % 1024 := rfl
    simp only [h0, ne_eq, not_true_eq_false, decide_false]
    show dynamicRotate 0 (BitVec.ofNat 32 (1024 - 2 ^ s)) none x rotates_S1024x128_d0 (at' i) = _
    refine dynamicRotate_apply _ _ _ _ _ _ fun b => ?_
    match b with
    | ⟨0, _⟩ =>
      show (partner 17 s i).val % 1024 = (i.val % 1024 + 1024 - (BitVec.ofNat 32 (1024 - 2 ^ s)).toNat % 1024) % 1024
      rw [BitVec.toNat_ofNat]; omega
    | ⟨1, _⟩ =>
      show (partner 17 s i).val / 1024 = i.val / 1024
      omega
  · have e1 := partner_val_of_set (p := 17) (s := s) (by omega) i (hr ▸ h0)
    have e2 := partner_val_of_set (p := 10) hs r h0
    have hrv : r.val = i.val % 1024 := rfl
    simp only [h0, ne_eq, not_false_eq_true, decide_true]
    show dynamicRotate 0 (BitVec.ofNat 32 (2 ^ s)) none x rotates_S1024x128_d0 (at' i) = _
    refine dynamicRotate_apply _ _ _ _ _ _ fun b => ?_
    match b with
    | ⟨0, _⟩ =>
      show (partner 17 s i).val % 1024 = (i.val % 1024 + 1024 - (BitVec.ofNat 32 (2 ^ s)).toNat % 1024) % 1024
      rw [BitVec.toNat_ofNat]; omega
    | ⟨1, _⟩ =>
      show (partner 17 s i).val / 1024 = i.val / 1024
      omega

/-- A flip along the lanes reads the partner at 1024 times the bit's distance. -/
theorem flip_lane {s : Nat} (hs : s < 7) (x : FVec Ideal S1024x128 .f32) (t u : BitVec 32)
    (ht : t = BitVec.ofNat 32 (2 ^ s)) (hu : u = BitVec.ofNat 32 (128 - 2 ^ s)) (i : Fin (2 ^ 17)) :
    flip 1 rotates_S1024x128_d1 laneI t u x (at' i) = seq x (partner 17 (10 + s) i) := by
  have h2 : 2 ^ s < 128 := by simpa using (Nat.pow_lt_pow_right (by decide) hs : 2 ^ s < 2 ^ 7)
  have h2' : 0 < 2 ^ s := Nat.two_pow_pos s
  have hi : i.val < 131072 := i.isLt
  have hm := mask_apply laneI (at' i) (n := i.val / 1024) (s := s) (by omega) (by omega) (laneI_apply i)
  have hr := bit_lane (s := s) i.val
  have hp : 2 ^ (10 + s) = 1024 * 2 ^ s := by rw [Nat.pow_add]
  let r : Fin (2 ^ 7) := ⟨i.val / 1024, by omega⟩
  unfold flip seq
  rw [ht, hu]
  show Scalar.select _ _ _ = _
  rw [hm]
  by_cases h0 : i.val / 1024 &&& 2 ^ s = 0
  · have e1 := partner_val_of_clear (p := 17) (s := 10 + s) (by omega) i (hr.mp h0)
    have e2 := partner_val_of_clear (p := 7) hs r h0
    have e3 := (partner 7 s r).isLt
    have hrv : r.val = i.val / 1024 := rfl
    simp only [h0, ne_eq, not_true_eq_false, decide_false]
    show dynamicRotate 1 (BitVec.ofNat 32 (128 - 2 ^ s)) none x rotates_S1024x128_d1 (at' i) = _
    refine dynamicRotate_apply _ _ _ _ _ _ fun b => ?_
    match b with
    | ⟨0, _⟩ =>
      show (partner 17 (10 + s) i).val % 1024 = i.val % 1024
      omega
    | ⟨1, _⟩ =>
      show (partner 17 (10 + s) i).val / 1024 = (i.val / 1024 + 128 - (BitVec.ofNat 32 (128 - 2 ^ s)).toNat % 128) % 128
      rw [BitVec.toNat_ofNat]; omega
  · have e1 := partner_val_of_set (p := 17) (s := 10 + s) (by omega) i (mt hr.mpr h0)
    have e2 := partner_val_of_set (p := 7) hs r h0
    have hrv : r.val = i.val / 1024 := rfl
    simp only [h0, ne_eq, not_false_eq_true, decide_true]
    show dynamicRotate 1 (BitVec.ofNat 32 (2 ^ s)) none x rotates_S1024x128_d1 (at' i) = _
    refine dynamicRotate_apply _ _ _ _ _ _ fun b => ?_
    match b with
    | ⟨0, _⟩ =>
      show (partner 17 (10 + s) i).val % 1024 = i.val % 1024
      omega
    | ⟨1, _⟩ =>
      show (partner 17 (10 + s) i).val / 1024 = (i.val / 1024 + 128 - (BitVec.ofNat 32 (2 ^ s)).toNat % 128) % 128
      rw [BitVec.toNat_ofNat]; omega

/-! ## One compare-exchange pass -/

/-- One pass: every position keeps the lesser or the greater of its own entry and its partner's. -/
def exch (a : Fin S1024x128.rank) (h : S1024x128.Rotates a none) (idx : IVec S1024x128 32) (up : IVec S1024x128 1)
    (t u : BitVec 32) (x : FVec Ideal S1024x128 .f32) : FVec Ideal S1024x128 .f32 :=
  select (xori (cmpi .ne (andi idx (broadcast S1024x128 t)) (broadcast S1024x128 0#32)) up)
    (minimumf x (flip a h idx t u x)) (maximumf x (flip a h idx t u x))

/-- The direction of level `l` at a position: whether its entries descend there. -/
def down (l : Nat) (i : Fin (2 ^ 17)) : Bool := (decide (i.val &&& 2 ^ (l + 1) = 0)) == false

/-- A partner at a distance below `2 ^ (l + 1)` lies in the same run of level `l`. -/
theorem down_partner {s l : Nat} (hs : s < 17) (hl : s ≤ l) (i : Fin (2 ^ 17)) : down l (partner 17 s i) = down l i := by
  have e : (i.val ^^^ 2 ^ s).testBit (l + 1) = i.val.testBit (l + 1) := by
    rw [Nat.testBit_xor, Nat.testBit_two_pow_of_ne (by omega), Bool.xor_false]
  unfold down
  rw [partner_val hs, Nat.and_two_pow, Nat.and_two_pow, e]

/-- Flipping bit `s` flips bit `s`. -/
theorem partner_bit {s : Nat} (hs : s < 17) (i : Fin (2 ^ 17)) :
    decide ((partner 17 s i).val &&& 2 ^ s ≠ 0) = !decide (i.val &&& 2 ^ s ≠ 0) := by
  have h2 := Nat.two_pow_pos s
  by_cases h0 : i.val &&& 2 ^ s = 0
  · have := partner_and hs i h0
    simp [h0, this]
  · have := partner_and_of_set hs i h0
    simp [h0, this]

/-- A pass is a stage of the bitonic network. -/
theorem exch_stage {a : Fin S1024x128.rank} {h : S1024x128.Rotates a none} {idx : IVec S1024x128 32} {up : IVec S1024x128 1}
    {t u : BitVec 32} {x : FVec Ideal S1024x128 .f32} {s l : Nat} (hs : s < 17) (hl : s ≤ l)
    (hf : ∀ i, flip a h idx t u x (at' i) = seq x (partner 17 s i))
    (hm : ∀ i, cmpi .ne (andi idx (broadcast S1024x128 t)) (broadcast S1024x128 0#32) (at' i)
      = BitVec.ofBool (decide (i.val &&& 2 ^ s ≠ 0)))
    (hup : ∀ i, up (at' i) = BitVec.ofBool (!down l i)) :
    seq (exch a h idx up t u x) = Network.apply (stage 17 s (down l)) (seq x) := by
  have hw : stage 17 s (down l) = stage 17 s fun i => (down l i) ^^ decide (i.val &&& 2 ^ s ≠ 0) :=
    stage_congr fun i hi => by simp [hi]
  funext i
  rw [hw, apply_stage_select hs _ (fun j => by rw [down_partner hs hl, partner_bit hs]; cases down l j <;> simp),
    ite_lt_eq_max_min]
  show Scalar.select (IntOp.xori (cmpi .ne (andi idx (broadcast S1024x128 t)) (broadcast S1024x128 0#32) (at' i)) (up (at' i)))
    (min (x (at' i)) (flip a h idx t u x (at' i))) (max (x (at' i)) (flip a h idx t u x (at' i))) = _
  rw [hf, hm, hup]
  cases down l i <;> cases decide (i.val &&& 2 ^ s ≠ 0) <;> rfl

/-- A row pass is the stage at its distance. -/
theorem exch_row {s l : Nat} (hs : s < 10) (hl : s ≤ l) {up : IVec S1024x128 1} (x : FVec Ideal S1024x128 .f32)
    (t u : BitVec 32) (ht : t = BitVec.ofNat 32 (2 ^ s)) (hu : u = BitVec.ofNat 32 (1024 - 2 ^ s))
    (hup : ∀ i, up (at' i) = BitVec.ofBool (!down l i)) :
    seq (exch 0 rotates_S1024x128_d0 rowI up t u x) = Network.apply (stage 17 s (down l)) (seq x) :=
  exch_stage (by omega) hl (flip_row hs x t u ht hu) (fun i => by
    rw [ht, mask_apply rowI (at' i) (n := i.val % 1024) (s := s) (by omega) (by omega) (rowI_apply i), bit_row hs]) hup

/-- A lane pass is the stage at 1024 times its distance. -/
theorem exch_lane {s l : Nat} (hs : s < 7) (hl : 10 + s ≤ l) {up : IVec S1024x128 1} (x : FVec Ideal S1024x128 .f32)
    (t u : BitVec 32) (ht : t = BitVec.ofNat 32 (2 ^ s)) (hu : u = BitVec.ofNat 32 (128 - 2 ^ s))
    (hup : ∀ i, up (at' i) = BitVec.ofBool (!down l i)) :
    seq (exch 1 rotates_S1024x128_d1 laneI up t u x) = Network.apply (stage 17 (10 + s) (down l)) (seq x) :=
  exch_stage (by omega) hl (flip_lane hs x t u ht hu) (fun i => by
    have hi : i.val < 131072 := i.isLt
    rw [ht, mask_apply laneI (at' i) (n := i.val / 1024) (s := s) (by omega) (by omega) (laneI_apply i)]
    simp only [ne_eq, bit_lane]) hup

end Cert.Proof.Value
-- ==== Proof.Value.Consts.lean ====
module

public import proofs.«01_k».proof.Proof.Value.Exchange

@[expose] public section

noncomputable section

namespace Cert.Proof.Value

open Idealize.ShloMosaic

/-- The pattern of 2. -/
theorem bits_2 : Ideal.ofBits .f32 0x40000000#32 = ((2 : ℝ) : EReal) := by simp [Ideal.ofBits, Ideal.ieee, -EReal.coe_mul]; norm_num
/-- The pattern of 8. -/
theorem bits_8 : Ideal.ofBits .f32 0x41000000#32 = ((8 : ℝ) : EReal) := by simp [Ideal.ofBits, Ideal.ieee, -EReal.coe_mul]; norm_num
/-- The pattern of 6. -/
theorem bits_6 : Ideal.ofBits .f32 0x40C00000#32 = ((6 : ℝ) : EReal) := by simp [Ideal.ofBits, Ideal.ieee, -EReal.coe_mul]; norm_num
/-- The pattern of 1. -/
theorem bits_1 : Ideal.ofBits .f32 0x3F800000#32 = ((1 : ℝ) : EReal) := by simp [Ideal.ofBits, Ideal.ieee, -EReal.coe_mul]; norm_num
/-- The pattern of 100. -/
theorem bits_100 : Ideal.ofBits .f32 0x42C80000#32 = ((100 : ℝ) : EReal) := by simp [Ideal.ofBits, Ideal.ieee, -EReal.coe_mul]; norm_num
/-- The pattern of 100000. -/
theorem bits_n : Ideal.ofBits .f32 0x47C35000#32 = ((100000 : ℝ) : EReal) := by simp [Ideal.ofBits, Ideal.ieee, -EReal.coe_mul]; norm_num
/-- The pattern of 200000. -/
theorem bits_2n : Ideal.ofBits .f32 0x48435000#32 = ((200000 : ℝ) : EReal) := by simp [Ideal.ofBits, Ideal.ieee, -EReal.coe_mul]; norm_num
/-- The pattern of 100000². -/
theorem bits_nn : Ideal.ofBits .f32 0x501502F9#32 = ((10000000000 : ℝ) : EReal) := by simp [Ideal.ofBits, Ideal.ieee, -EReal.coe_mul]; norm_num
/-- The pattern of infinity. -/
theorem bits_top : Ideal.ofBits .f32 0x7F800000#32 = ⊤ := by simp [Ideal.ofBits, Ideal.ieee]

/-- The value of the kernel's named factor. -/
theorem inv_l_eq : Named.named (F := Ideal) (φ := .f32) Cert.KernelIdeal.κ "inv_l" 0x3C23D70A#32 = ((1 / 100 : ℝ) : EReal) :=
  IdealRules.named_const.ideal_named_scalar _ _ _ _ rfl

/-- The kernel doubles the count as the reference's literal does. -/
theorem two_n : Ideal.ofBits .f32 0x40000000#32 * Ideal.ofBits .f32 0x47C35000#32 = ((200000 : ℝ) : EReal) := by
  rw [bits_2, bits_n, ← EReal.coe_mul]; norm_num

/-- The kernel's factor of the square of the count. -/
theorem inv_nn : Ideal.div (Ideal.ofBits .f32 0x3F800000#32) (Ideal.ofBits .f32 0x47C35000#32 * Ideal.ofBits .f32 0x47C35000#32)
    = ((1 / 10000000000 : ℝ) : EReal) := by
  rw [bits_1, bits_n, ← EReal.coe_mul, Ideal.div_coe (by norm_num), ← EReal.coe_mul]; norm_num

end Cert.Proof.Value
-- ==== Proof.Value.Cost.lean ====
module

public import proofs.«01_k».proof.Proof.Value.Consts

@[expose] public section

noncomputable section

namespace Cert.Proof.Value

open Cert.KernelIdeal Cert.KernelIdeal.Gen Cert.Proof.KI
open Idealize.ShloMosaic

/-! ## Sums over a tile -/

/-- The sum of a tile's entries, as the kernel takes it. -/
def tileSum (x : FVec Ideal S1024x128 .f32) : EReal :=
  extractAt ![0, 0, 0] (shapeCast S1x1x1 (multiReduction (F := Ideal) .add [1, 2] S1 (shapeCast S1x1024x128 x shapeCasts_S1024x128_S1x1024x128)
    0x00000000#32 reduces_S1x1024x128_S1 (.inl rfl) rfl) shapeCasts_S1_S1x1x1) inpos_S1x1x1_p0_0_0

/-- Positions and indices of a tile correspond. -/
def place : Fin (2 ^ 17) ≃ S1024x128.Idx where
  toFun := at'
  invFun j := ⟨(j 1).val * 1024 + (j 0).val, by
    have h0 : (j 0).val < 1024 := (j 0).isLt
    have h1 : (j 1).val < 128 := (j 1).isLt
    omega⟩
  left_inv i := Fin.ext (by show i.val / 1024 * 1024 + i.val % 1024 = i.val; omega)
  right_inv j := by
    have h0 : (j 0).val < 1024 := (j 0).isLt
    have h1 : (j 1).val < 128 := (j 1).isLt
    funext b
    match b with
    | ⟨0, _⟩ => exact Fin.ext (by show ((j 1).val * 1024 + (j 0).val) % 1024 = (j 0).val; omega)
    | ⟨1, _⟩ => exact Fin.ext (by show ((j 1).val * 1024 + (j 0).val) / 1024 = (j 1).val; omega)

/-- A tile's sum is its sequence's. -/
theorem tileSum_eq (x : FVec Ideal S1024x128 .f32) : tileSum x = ∑ i, seq x i := by
  show multiReduction (F := Ideal) .add [1, 2] S1 (shapeCast S1x1024x128 x shapeCasts_S1024x128_S1x1024x128)
    0x00000000#32 reduces_S1x1024x128_S1 (.inl rfl) rfl _ = _
  refine (Ideal.multiReduction_add_total _ _ _ (by decide) _ _ _).trans ?_
  refine (Equiv.sum_comp (Shape.reshapeEquiv shapeCasts_S1024x128_S1x1024x128) x).trans ?_
  exact (Equiv.sum_comp place x).symm

/-- The first 100000 positions. -/
def pos (i : Fin 100000) : Fin (2 ^ 17) := ⟨i.val, by have := i.isLt; omega⟩

/-- A sequence that is zero past the cloud sums over the cloud. -/
theorem sum_cloud (f : Fin (2 ^ 17) → EReal) (h : ∀ i : Fin (2 ^ 17), ¬ i.val < 100000 → f i = 0) :
    ∑ i, f i = ∑ i : Fin 100000, f (pos i) := by
  have hinj : Function.Injective pos := fun i j e => Fin.ext (Fin.mk.inj e)
  rw [← Finset.sum_image (s := Finset.univ) (g := pos) (f := f) (fun i _ j _ e => hinj e)]
  refine (Finset.sum_subset (Finset.subset_univ _) fun i _ hi => h i fun hlt => hi ?_).symm
  exact Finset.mem_image.mpr ⟨⟨i.val, hlt⟩, Finset.mem_univ _, rfl⟩

/-! ## The cost of two sequences -/

/-- The cost before its last factor, from the moments of two sequences and the literals. -/
def poly (c2 cn c8 c6 c2n X X2 X3 X4 Y Y2 Y3 Y4 xy xxy xyy xxyy : EReal) : EReal :=
  (((c2n * X4 - c8 * X3 * X) + c6 * X2 * X2) + ((c2n * Y4 - c8 * Y3 * Y) + c6 * Y2 * Y2))
    - c2 * (c2 * X2 * Y2 + c2 * (((cn * xxyy - c2 * Y * xxy) - c2 * X * xyy) + c2 * xy * xy))

/-- The cost of pairing `a` with `b` entry by entry. -/
def cost (a b : Fin 100000 → EReal) : EReal :=
  poly ((2 : ℝ) : EReal) ((100000 : ℝ) : EReal) ((8 : ℝ) : EReal) ((6 : ℝ) : EReal) ((200000 : ℝ) : EReal)
    (∑ i, a i) (∑ i, a i * a i) (∑ i, a i * a i * a i) (∑ i, a i * a i * (a i * a i))
    (∑ i, b i) (∑ i, b i * b i) (∑ i, b i * b i * b i) (∑ i, b i * b i * (b i * b i))
    (∑ i, a i * b i) (∑ i, a i * a i * b i) (∑ i, a i * (b i * b i)) (∑ i, a i * a i * (b i * b i))
    * ((1 / 10000000000 : ℝ) : EReal)

/-- The kernel's cost of three tiles, in terms of its sums. -/
theorem costOf_eq (am bm dm : FVec Ideal S1024x128 .f32) :
    costOf am bm dm (mulf am am) =
      let P := fun (Y Y2 Y3 Y4 : EReal) (y : FVec Ideal S1024x128 .f32) =>
        poly ((2 : ℝ) : EReal) ((100000 : ℝ) : EReal) ((8 : ℝ) : EReal) ((6 : ℝ) : EReal) ((200000 : ℝ) : EReal)
          (tileSum am) (tileSum (mulf am am)) (tileSum (mulf (mulf am am) am)) (tileSum (mulf (mulf am am) (mulf am am)))
          Y Y2 Y3 Y4
          (tileSum (mulf am y)) (tileSum (mulf (mulf am am) y)) (tileSum (mulf am (mulf y y))) (tileSum (mulf (mulf am am) (mulf y y)))
          * ((1 / 10000000000 : ℝ) : EReal)
      let Q := P (tileSum bm) (tileSum (mulf bm bm)) (tileSum (mulf (mulf bm bm) bm)) (tileSum (mulf (mulf bm bm) (mulf bm bm)))
      min (Q bm) (Q dm) * ((1 / 100 : ℝ) : EReal) := by
  dsimp only
  rw [← bits_2, ← bits_n, ← bits_8, ← bits_6, ← inv_nn, ← two_n, ← inv_l_eq]
  rfl

/-- A tile masked to the cloud, zero past it. -/
def Masked (x : FVec Ideal S1024x128 .f32) (a : Fin 100000 → EReal) : Prop :=
  (∀ i, seq x (pos i) = a i) ∧ ∀ i : Fin (2 ^ 17), ¬ i.val < 100000 → seq x i = 0

/-- A masked tile's sum. -/
theorem Masked.sum {x : FVec Ideal S1024x128 .f32} {a : Fin 100000 → EReal} (h : Masked x a) : tileSum x = ∑ i, a i := by
  rw [tileSum_eq, sum_cloud _ h.2]
  exact Finset.sum_congr rfl fun i _ => h.1 i

/-- The product of masked tiles is masked. -/
theorem Masked.mul {x y : FVec Ideal S1024x128 .f32} {a b : Fin 100000 → EReal} (h : Masked x a) (h' : Masked y b) :
    Masked (mulf x y) fun i => a i * b i := by
  refine ⟨fun i => ?_, fun i hi => ?_⟩
  · show seq x (pos i) * seq y (pos i) = _
    rw [h.1, h'.1]
  · show seq x i * seq y i = _
    rw [h.2 i hi, zero_mul]

/-- A sequence from its end. -/
def back (b : Fin 100000 → EReal) : Fin 100000 → EReal := fun i => b i.rev

/-- A sum does not depend on the direction. -/
theorem sum_back (g : EReal → EReal) (b : Fin 100000 → EReal) : ∑ i, g (b i) = ∑ i, g (back b i) :=
  (Equiv.sum_comp Fin.revPerm fun i => g (b i)).symm

/-- The kernel's cost of masked tiles, the third the second from its end. -/
theorem costOf_masked {am bm dm : FVec Ideal S1024x128 .f32} {a b : Fin 100000 → EReal}
    (ha : Masked am a) (hb : Masked bm b) (hd : Masked dm (back b)) :
    costOf am bm dm (mulf am am) = min (cost a b) (cost a (back b)) * ((1 / 100 : ℝ) : EReal) := by
  rw [costOf_eq]
  dsimp only
  rw [ha.sum, (ha.mul ha).sum, ((ha.mul ha).mul ha).sum, ((ha.mul ha).mul (ha.mul ha)).sum,
    hb.sum, (hb.mul hb).sum, ((hb.mul hb).mul hb).sum, ((hb.mul hb).mul (hb.mul hb)).sum,
    (ha.mul hb).sum, ((ha.mul ha).mul hb).sum, (ha.mul (hb.mul hb)).sum, ((ha.mul ha).mul (hb.mul hb)).sum,
    (ha.mul hd).sum, ((ha.mul ha).mul hd).sum, (ha.mul (hd.mul hd)).sum, ((ha.mul ha).mul (hd.mul hd)).sum]
  unfold cost
  rw [← sum_back (fun t => t) b, ← sum_back (fun t => t * t) b, ← sum_back (fun t => t * t * t) b,
    ← sum_back (fun t => t * t * (t * t)) b]

end Cert.Proof.Value
-- ==== Proof.Value.Sort.lean ====
module

public import proofs.«01_k».proof.Proof.Value.Exchange

@[expose] public section

noncomputable section

namespace Cert.Proof.Value

open Cert.KernelIdeal Cert.KernelIdeal.Gen Cert.Proof.KI
open Idealize.ShloMosaic Idealize.ShloMosaic.SortNet

/-! ## Folds of passes are networks -/

/-- A network made of pieces is applied piece by piece. -/
theorem apply_flatMap {ι : Type} (L : List ι) (f : ι → Network (2 ^ 17)) (v : Fin (2 ^ 17) → EReal) :
    Network.apply (L.flatMap f) v = L.foldl (fun w s => Network.apply (f s) w) v := by
  induction L generalizing v with
  | nil => rfl
  | cons a L ih => rw [List.flatMap_cons, Network.apply_append, ih]; rfl

/-- A fold whose every trip is a network's application is the application of the trips' networks in order. -/
theorem seq_fold {n : Nat} {ι : Type} (g : Fin n → FVec Ideal S1024x128 .f32 → FVec Ideal S1024x128 .f32) (r : Fin n → ι)
    (f : ι → Network (2 ^ 17)) (hg : ∀ q x, seq (g q x) = Network.apply (f (r q)) (seq x)) (x : FVec Ideal S1024x128 .f32) :
    seq (Scf.fold g x) = Network.apply (((List.finRange n).map r).flatMap f) (seq x) := by
  rw [Scf.fold_eq, apply_flatMap, List.foldl_map]
  generalize List.finRange n = L
  induction L generalizing x with
  | nil => rfl
  | cons a L ih => rw [List.foldl_cons, List.foldl_cons, ih, hg]

/-- A loop of no trips leaves its accumulator. -/
theorem fold_none {α : Type} {n : Nat} (h : n = 0) (g : Fin n → α → α) (x : α) : Scf.fold g x = x := by
  subst h; rw [Scf.fold_eq]; rfl

/-! ## The position's number -/

/-- The word of position `i` is `i`. -/
theorem position_apply (i : Fin (2 ^ 17)) : k0_pay3 (at' i) = BitVec.ofNat 32 i.val := by
  have hi : i.val < 131072 := i.isLt
  show IntOp.addi (IntOp.muli (laneI (at' i)) 1024#32) (rowI (at' i)) = _
  rw [laneI_apply, rowI_apply]
  show BitVec.ofNat 32 _ * 1024#32 + BitVec.ofNat 32 _ = _
  apply BitVec.eq_of_toNat_eq
  simp only [BitVec.toNat_add, BitVec.toNat_mul, BitVec.toNat_ofNat]
  omega

/-- The direction mask of a level. -/
theorem up_apply {l : Nat} (hl : l < 17) (i : Fin (2 ^ 17)) (k : BitVec 32) (hk : k = BitVec.ofNat 32 (2 ^ (l + 1))) :
    cmpi .eq (andi k0_pay3 (broadcast S1024x128 k)) (broadcast S1024x128 0#32) (at' i) = BitVec.ofBool (!down l i) := by
  have hi : i.val < 131072 := i.isLt
  have h := word_bit (n := i.val) (s := l + 1) (by omega) (by omega)
  simp only [cmpi, andi, IntOp.andi, broadcast, IntOp.cmpi, position_apply, hk, down]
  by_cases h0 : i.val &&& 2 ^ (l + 1) = 0
  · simp [h0, h.mpr h0]
  · have := mt h.mp h0
    simp [h0, beq_eq_false_iff_ne.mpr this]

/-! ## The trips of the loops -/

/-- A lane trip's distance, and the bit it flips. -/
theorem lane_trip : ∀ p : Fin k0_t1_loop.trips, ∀ q : Fin (k0_t2_loop p).trips,
    (p.val - 10 - q.val < 7 ∧ p.val - q.val = 10 + (p.val - 10 - q.val) ∧ p.val < 17) ∧
    Scalar.shli 1#32 (Scalar.subi (Scalar.subi (Scalar.subi (Scf.iv 1#32 1#32 p) 10#32) 1#32) (Scf.iv 0#32 1#32 q))
      = BitVec.ofNat 32 (2 ^ (p.val - 10 - q.val)) := by decide +kernel

/-- A row trip's distance. -/
theorem row_trip : ∀ p : Fin k0_t1_loop.trips, ∀ q : Fin (k0_t4_loop p).trips,
    (min (p.val + 1) 10 - 1 - q.val < 10 ∧ min (p.val + 1) 10 - 1 - q.val ≤ p.val) ∧
    Scalar.shli 1#32 (Scalar.subi (Scalar.subi (Scalar.minsi (Scf.iv 1#32 1#32 p) 10#32) 1#32) (Scf.iv 0#32 1#32 q))
      = BitVec.ofNat 32 (2 ^ (min (p.val + 1) 10 - 1 - q.val)) := by decide +kernel

/-- A phase's run length. -/
theorem phase_trip : ∀ p : Fin k0_t1_loop.trips, p.val < 17 ∧
    Scalar.shli 1#32 (Scf.iv 1#32 1#32 p) = BitVec.ofNat 32 (2 ^ (p.val + 1)) := by decide +kernel

/-- The remainders of the doubled loops have no trip. -/
theorem no_trip : ∀ p : Fin k0_t1_loop.trips, (k0_t3_loop p).trips = 0 ∧ (k0_t5_loop p).trips = 0 := by decide +kernel

/-- The distances of a phase, in order: its lane passes, then its row passes. -/
theorem distances : ∀ p : Fin k0_t1_loop.trips,
    ((List.finRange (k0_t2_loop p).trips).map fun q => p.val - q.val)
      ++ ((List.finRange (k0_t4_loop p).trips).map fun q => min (p.val + 1) 10 - 1 - q.val)
      = (List.range (p.val + 1)).reverse := by decide +kernel

/-- The phases, in order. -/
theorem levels : (List.finRange k0_t1_loop.trips).map (fun p => p.val) = List.range 17 := by decide +kernel

/-! ## The sorts -/

/-- A phase of the first sort is a level of the bitonic network. -/
theorem phase_seq (p : Fin k0_t1_loop.trips) (x : FVec Ideal S1024x128 .f32) :
    seq (phaseA rowI laneI k0_pay3 p x) = Network.apply (levelNet 17 false p.val) (seq x) := by
  obtain ⟨hp, hk⟩ := phase_trip p
  have hup : ∀ i, k0_pay17 k0_pay3 p (at' i) = BitVec.ofBool (!down p.val i) := fun i => up_apply hp i _ hk
  unfold phaseA
  rw [fold_none (no_trip p).2, fold_none (no_trip p).1,
    seq_fold (fun q => k0_pay20 rowI k0_pay3 p q) (fun q => min (p.val + 1) 10 - 1 - q.val) (fun s => stage 17 s (down p.val))
      (fun q x => by
        obtain ⟨⟨h1, h2⟩, h3⟩ := row_trip p q
        refine exch_row (up := k0_pay17 k0_pay3 p) h1 h2 x _ _ h3 ?_ hup
        have h2 : 2 ^ (min (p.val + 1) 10 - 1 - q.val) < 1024 := by
          simpa using (Nat.pow_lt_pow_right (by decide) h1 : 2 ^ _ < 2 ^ 10)
        rw [h3]
        show 1024#32 - _ = _
        apply BitVec.eq_of_toNat_eq
        simp only [BitVec.toNat_sub, BitVec.toNat_ofNat]
        omega),
    seq_fold (fun q => k0_pay18 laneI k0_pay3 p q) (fun q => p.val - q.val) (fun s => stage 17 s (down p.val))
      (fun q x => by
        obtain ⟨⟨h1, h2, h4⟩, h3⟩ := lane_trip p q
        beta_reduce
        rw [h2]
        refine exch_lane (up := k0_pay17 k0_pay3 p) h1 (by omega) x _ _ h3 ?_ hup
        have h2 : 2 ^ (p.val - 10 - q.val) < 128 := by
          simpa using (Nat.pow_lt_pow_right (by decide) h1 : 2 ^ _ < 2 ^ 7)
        rw [h3]
        show 128#32 - _ = _
        apply BitVec.eq_of_toNat_eq
        simp only [BitVec.toNat_sub, BitVec.toNat_ofNat]
        omega),
    ← Network.apply_append, ← List.flatMap_append, distances]
  rfl

/-- The first sort's loop is the bitonic network. -/
theorem sortA_seq (x : FVec Ideal S1024x128 .f32) :
    seq (Scf.fold (phaseA rowI laneI k0_pay3) x) = Network.apply (sortNet 17 false) (seq x) := by
  rw [seq_fold _ (fun p => p.val) (levelNet 17 false) phase_seq, levels]
  rfl

/-- The second sort's loop is the first's. -/
theorem sortB_eq (x : FVec Ideal S1024x128 .f32) :
    Scf.fold (phaseB rowI laneI k0_pay3) x = Scf.fold (phaseA rowI laneI k0_pay3) x := rfl

/-- What the sort leaves is in order. -/
theorem sortA_monotone (x : FVec Ideal S1024x128 .f32) : Monotone (seq (Scf.fold (phaseA rowI laneI k0_pay3) x)) := by
  rw [sortA_seq]; exact sortNet_apply_monotone 17 _

/-- What the sort leaves is a rearrangement of what it was given. -/
theorem sortA_perm (x : FVec Ideal S1024x128 .f32) :
    ∃ σ : Equiv.Perm (Fin (2 ^ 17)), seq (Scf.fold (phaseA rowI laneI k0_pay3) x) = seq x ∘ σ := by
  rw [sortA_seq]; exact Network.exists_perm _ _

end Cert.Proof.Value
-- ==== Proof.Value.Reverse.lean ====
module

public import proofs.«01_k».proof.Proof.Value.Sort

@[expose] public section

noncomputable section

namespace Cert.Proof.Value

open Cert.KernelIdeal Cert.KernelIdeal.Gen Cert.Proof.KI
open Idealize.ShloMosaic Idealize.ShloMosaic.SortNet

/-- The tile with its sequence read from the end: every bit of the position flipped, one after the other. -/
def turned (b : FVec Ideal S1024x128 .f32) : FVec Ideal S1024x128 .f32 :=
  let R (t u : BitVec 32) := flip 0 rotates_S1024x128_d0 rowI t u
  let L (t u : BitVec 32) := flip 1 rotates_S1024x128_d1 laneI t u
  L 64#32 64#32 <| L 32#32 96#32 <| L 16#32 112#32 <| L 8#32 120#32 <| L 4#32 124#32 <| L 2#32 126#32 <| L 1#32 127#32 <|
  R 512#32 512#32 <| R 256#32 768#32 <| R 128#32 896#32 <| R 64#32 960#32 <| R 32#32 992#32 <| R 16#32 1008#32 <|
  R 8#32 1016#32 <| R 4#32 1020#32 <| R 2#32 1022#32 <| R 1#32 1023#32 b

/-- A row flip as a sequence. -/
theorem seq_row (s : Nat) (hs : s < 10) (x : FVec Ideal S1024x128 .f32) (t u : BitVec 32)
    (ht : t = BitVec.ofNat 32 (2 ^ s)) (hu : u = BitVec.ofNat 32 (1024 - 2 ^ s)) (i : Fin (2 ^ 17)) :
    seq (flip 0 rotates_S1024x128_d0 rowI t u x) i = seq x (partner 17 s i) := flip_row hs x t u ht hu i

/-- A lane flip as a sequence. -/
theorem seq_lane (s : Nat) (hs : s < 7) (x : FVec Ideal S1024x128 .f32) (t u : BitVec 32)
    (ht : t = BitVec.ofNat 32 (2 ^ s)) (hu : u = BitVec.ofNat 32 (128 - 2 ^ s)) (i : Fin (2 ^ 17)) :
    seq (flip 1 rotates_S1024x128_d1 laneI t u x) i = seq x (partner 17 (10 + s) i) := flip_lane hs x t u ht hu i

/-- Flipping all seventeen bits of a position counts from the end. -/
theorem xor_all (n : Nat) (hn : n < 131072) : n ^^^ 131071 = 131071 - n := by
  have h : (BitVec.ofNat 17 n ^^^ BitVec.allOnes 17).toNat = (~~~ BitVec.ofNat 17 n).toNat := by
    rw [BitVec.xor_allOnes]
  rw [BitVec.toNat_not, BitVec.toNat_xor, BitVec.toNat_allOnes, BitVec.toNat_ofNat, Nat.mod_eq_of_lt hn] at h
  simpa using h

/-- The turned tile at position `i` is the tile at `131071 − i`. -/
theorem turned_apply (b : FVec Ideal S1024x128 .f32) (i k : Fin (2 ^ 17)) (hk : k.val = 131071 - i.val) :
    seq (turned b) i = seq b k := by
  have hi : i.val < 131072 := i.isLt
  unfold turned
  dsimp only
  refine (seq_lane 6 (by decide) _ _ _ rfl rfl _).trans ?_
  refine (seq_lane 5 (by decide) _ _ _ rfl rfl _).trans ?_
  refine (seq_lane 4 (by decide) _ _ _ rfl rfl _).trans ?_
  refine (seq_lane 3 (by decide) _ _ _ rfl rfl _).trans ?_
  refine (seq_lane 2 (by decide) _ _ _ rfl rfl _).trans ?_
  refine (seq_lane 1 (by decide) _ _ _ rfl rfl _).trans ?_
  refine (seq_lane 0 (by decide) _ _ _ rfl rfl _).trans ?_
  refine (seq_row 9 (by decide) _ _ _ rfl rfl _).trans ?_
  refine (seq_row 8 (by decide) _ _ _ rfl rfl _).trans ?_
  refine (seq_row 7 (by decide) _ _ _ rfl rfl _).trans ?_
  refine (seq_row 6 (by decide) _ _ _ rfl rfl _).trans ?_
  refine (seq_row 5 (by decide) _ _ _ rfl rfl _).trans ?_
  refine (seq_row 4 (by decide) _ _ _ rfl rfl _).trans ?_
  refine (seq_row 3 (by decide) _ _ _ rfl rfl _).trans ?_
  refine (seq_row 2 (by decide) _ _ _ rfl rfl _).trans ?_
  refine (seq_row 1 (by decide) _ _ _ rfl rfl _).trans ?_
  refine (seq_row 0 (by decide) _ _ _ rfl rfl _).trans ?_
  refine congrArg (seq b) (Fin.ext ?_)
  simp only [partner_val (p := 17) (s := 0) (by decide), partner_val (p := 17) (s := 1) (by decide),
    partner_val (p := 17) (s := 2) (by decide), partner_val (p := 17) (s := 3) (by decide),
    partner_val (p := 17) (s := 4) (by decide), partner_val (p := 17) (s := 5) (by decide),
    partner_val (p := 17) (s := 6) (by decide), partner_val (p := 17) (s := 7) (by decide),
    partner_val (p := 17) (s := 8) (by decide), partner_val (p := 17) (s := 9) (by decide),
    partner_val (p := 17) (s := 10 + 0) (by decide), partner_val (p := 17) (s := 10 + 1) (by decide),
    partner_val (p := 17) (s := 10 + 2) (by decide), partner_val (p := 17) (s := 10 + 3) (by decide),
    partner_val (p := 17) (s := 10 + 4) (by decide), partner_val (p := 17) (s := 10 + 5) (by decide),
    partner_val (p := 17) (s := 10 + 6) (by decide), Nat.xor_assoc]
  rw [hk, ← xor_all i.val hi]
  congr 1

/-- A select under a truth value. -/
theorem select_bool {α : Type} (c : Bool) (a b : α) : Scalar.select (BitVec.ofBool c) a b = if c then a else b := by
  cases c <;> rfl

/-- The signed comparison of two small words. -/
theorem slt_apply {n c : Nat} (hn : n < 2 ^ 31) (hc : c < 2 ^ 31) :
    IntOp.cmpi .slt (BitVec.ofNat 32 n) (BitVec.ofNat 32 c) = BitVec.ofBool (decide (n < c)) := by
  have h : ∀ k : Nat, k < 2 ^ 31 → (BitVec.ofNat 32 k).toInt = k := fun k hk => by
    rw [BitVec.toInt_ofNat', Int.bmod_eq_of_le] <;> omega
  simp only [IntOp.cmpi, BitVec.slt, h n hn, h c hc, Nat.cast_lt]

/-- Which positions hold an entry of the cloud. -/
theorem valid_apply (i : Fin (2 ^ 17)) : k0_pay4 (at' i) = BitVec.ofBool (decide (i.val < 100000)) := by
  have hi : i.val < 131072 := i.isLt
  have e : k0_pay4 = cmpi .slt k0_pay3 (broadcast S1024x128 (BitVec.ofNat 32 100000)) := rfl
  rw [e, ← slt_apply (n := i.val) (by omega) (by norm_num), ← position_apply]
  rfl

/-- The shifted tile: the turned tile read 31072 positions on. -/
theorem shifted_apply (y : FVec Ideal S1024x128 .f32) (i k : Fin (2 ^ 17)) (hi : i.val < 100000) (hk : k.val = i.val + 31072) :
    (if i.val % 1024 < 672 then
        dynamicRotate (s := S1024x128) 0 672#32 none (dynamicRotate (s := S1024x128) 1 98#32 none y rotates_S1024x128_d1) rotates_S1024x128_d0 (at' i)
      else dynamicRotate (s := S1024x128) 0 672#32 none (dynamicRotate (s := S1024x128) 1 97#32 none y rotates_S1024x128_d1) rotates_S1024x128_d0 (at' i))
      = seq y k := by
  by_cases h6 : i.val % 1024 < 672
  · rw [if_pos h6]
    refine (dynamicRotate_apply (s := S1024x128) 0 _ _ _ _
      (ValueIdx.ix2 ⟨(i.val % 1024) + 352, by omega⟩ ⟨i.val / 1024, by omega⟩) fun b => ?_).trans
        (dynamicRotate_apply (s := S1024x128) 1 _ _ _ _ (at' k) fun b => ?_)
    · match b with
      | ⟨0, _⟩ => show i.val % 1024 + 352 = (i.val % 1024 + 1024 - 672 % 1024) % 1024; omega
      | ⟨1, _⟩ => rfl
    · match b with
      | ⟨0, _⟩ => show k.val % 1024 = i.val % 1024 + 352; omega
      | ⟨1, _⟩ => show k.val / 1024 = (i.val / 1024 + 128 - 98 % 128) % 128; omega
  · rw [if_neg h6]
    refine (dynamicRotate_apply (s := S1024x128) 0 _ _ _ _
      (ValueIdx.ix2 ⟨(i.val % 1024) - 672, by omega⟩ ⟨i.val / 1024, by omega⟩) fun b => ?_).trans
        (dynamicRotate_apply (s := S1024x128) 1 _ _ _ _ (at' k) fun b => ?_)
    · match b with
      | ⟨0, _⟩ => show i.val % 1024 - 672 = (i.val % 1024 + 1024 - 672 % 1024) % 1024; omega
      | ⟨1, _⟩ => rfl
    · match b with
      | ⟨0, _⟩ => show k.val % 1024 = i.val % 1024 - 672; omega
      | ⟨1, _⟩ => show k.val / 1024 = (i.val / 1024 + 128 - 97 % 128) % 128; omega

/-- The descending tile: the sorted entries of the cloud from the greatest on, zero past them. -/
theorem descB_apply (b : FVec Ideal S1024x128 .f32) (i : Fin (2 ^ 17)) :
    descB b (at' i) = if i.val < 100000 then seq b ⟨99999 - i.val, by omega⟩ else Ideal.ofBits .f32 0x00000000#32 := by
  have hi : i.val < 131072 := i.isLt
  have e : descB b = select k0_pay4 (select (cmpi .slt rowI (broadcast S1024x128 (BitVec.ofNat 32 672)))
      (dynamicRotate (s := S1024x128) 0 672#32 none (dynamicRotate (s := S1024x128) 1 98#32 none (turned b) rotates_S1024x128_d1) rotates_S1024x128_d0)
      (dynamicRotate (s := S1024x128) 0 672#32 none (dynamicRotate (s := S1024x128) 1 97#32 none (turned b) rotates_S1024x128_d1) rotates_S1024x128_d0))
      (broadcast S1024x128 (Ideal.ofBits .f32 0x00000000#32)) := rfl
  have hr : cmpi .slt rowI (broadcast S1024x128 (BitVec.ofNat 32 672)) (at' i) = BitVec.ofBool (decide (i.val % 1024 < 672)) := by
    rw [← slt_apply (n := i.val % 1024) (by omega) (by norm_num), ← rowI_apply]
    rfl
  rw [e]
  simp only [select]
  rw [valid_apply, hr, select_bool, select_bool]
  simp only [decide_eq_true_eq]
  by_cases h : i.val < 100000
  · rw [if_pos h, if_pos h, shifted_apply (turned b) i ⟨i.val + 31072, by omega⟩ h rfl]
    exact turned_apply b _ _ (by show 99999 - i.val = 131071 - (i.val + 31072); omega)
  · rw [if_neg h, if_neg h]; rfl

end Cert.Proof.Value
-- ==== Proof.Value.Unique.lean ====
module

public import proofs.«01_k».proof.Proof.Value.Cost
public import proofs.«01_k».proof.Proof.Value.Reverse
public import Mathlib.Order.Interval.Finset.Fin
public import Mathlib.Logic.Equiv.Fintype

@[expose] public section

noncomputable section

namespace Cert.Proof.Value

open Cert.KernelIdeal Cert.KernelIdeal.Gen Cert.Proof.KI
open Idealize.ShloMosaic

/-- Of two monotone arrangements, entry by entry, the one is at most the other. -/
theorem arranged_le {n : Nat} {f : Fin n → EReal} {σ τ : Equiv.Perm (Fin n)} (hσ : Monotone (f ∘ σ)) (hτ : Monotone (f ∘ τ))
    (i : Fin n) : f (σ i) ≤ f (τ i) := by
  obtain ⟨j, hj, hij⟩ : ∃ j, j ≤ i ∧ i ≤ σ.symm (τ j) := by
    by_contra hno
    push Not at hno
    have hle : (Finset.Iic i).card ≤ (Finset.Iio i).card :=
      Finset.card_le_card_of_injOn (fun j => σ.symm (τ j))
        (fun j hj => by simpa using hno j (by simpa using hj))
        (fun a _ b _ hab => τ.injective (σ.symm.injective hab))
    rw [Fin.card_Iic, Fin.card_Iio] at hle
    omega
  calc f (σ i) ≤ f (σ (σ.symm (τ j))) := hσ hij
    _ = f (τ j) := by rw [Equiv.apply_symm_apply]
    _ ≤ f (τ i) := hτ hj

/-- A tile holding a cloud's projections, infinite past it. -/
def Holds (x : FVec Ideal S1024x128 .f32) (p : Fin 100000 → EReal) : Prop :=
  (∀ i, seq x (pos i) = p i) ∧ ∀ i : Fin (2 ^ 17), ¬ i.val < 100000 → seq x i = ⊤

/-- `pos` as an embedding. -/
def posE : Fin 100000 ↪ Fin (2 ^ 17) := ⟨pos, fun _ _ e => Fin.ext (Fin.mk.inj e)⟩

/-- The sorted tile starts with the projections in order, however they were put in order. -/
theorem sorted_apply {x : FVec Ideal S1024x128 .f32} {p : Fin 100000 → EReal} (h : Holds x p)
    (τ : Equiv.Perm (Fin 100000)) (hτ : Monotone (p ∘ τ)) (i : Fin 100000) :
    seq (Scf.fold (phaseA rowI laneI k0_pay3) x) (pos i) = p (τ i) := by
  obtain ⟨σ, hσ⟩ := sortA_perm x
  have hm := sortA_monotone x
  rw [hσ] at hm
  have hin : ∀ k : Fin 100000, seq x (τ.viaFintypeEmbedding posE (pos k)) = p (τ k) := fun k =>
    (congrArg (seq x) (τ.viaFintypeEmbedding_apply_image posE k)).trans (h.1 (τ k))
  have hout : ∀ k : Fin (2 ^ 17), ¬ k.val < 100000 → seq x (τ.viaFintypeEmbedding posE k) = ⊤ := fun k hk => by
    rw [τ.viaFintypeEmbedding_apply_notMem_range posE (by
      rintro ⟨l, rfl⟩
      exact hk l.isLt)]
    exact h.2 k hk
  have hm' : Monotone (seq x ∘ τ.viaFintypeEmbedding posE) := by
    intro k l hkl
    show seq x (τ.viaFintypeEmbedding posE k) ≤ seq x (τ.viaFintypeEmbedding posE l)
    by_cases hl : l.val < 100000
    · have hk : k.val < 100000 := lt_of_le_of_lt hkl hl
      have ek : k = pos ⟨k.val, hk⟩ := rfl
      have el : l = pos ⟨l.val, hl⟩ := rfl
      rw [ek, el, hin, hin]
      exact hτ hkl
    · rw [hout l hl]
      exact le_top
  rw [hσ, ← hin i]
  exact le_antisymm (arranged_le hm hm' _) (arranged_le hm' hm _)

/-- Masking a tile to the cloud. -/
theorem masked_apply {x : FVec Ideal S1024x128 .f32} {a : Fin 100000 → EReal} (h : ∀ i, seq x (pos i) = a i) :
    Masked (k0_pay32 k0_pay4 x) a := by
  have e : ∀ i : Fin (2 ^ 17), seq (k0_pay32 k0_pay4 x) i = if i.val < 100000 then seq x i else 0 := fun i => by
    have e' : seq (k0_pay32 k0_pay4 x) i = Scalar.select (k0_pay4 (at' i)) (seq x i) (Ideal.ofBits .f32 0x00000000#32) := rfl
    rw [e', valid_apply, select_bool, Ideal.ofBits_zero_f32]
    simp only [decide_eq_true_eq]
  refine ⟨fun i => ?_, fun i hi => ?_⟩
  · rw [e, if_pos (show (pos i).val < 100000 from i.isLt), h]
  · rw [e, if_neg hi]

/-- Reversing the cloud's part of a tile. -/
theorem descB_masked {x : FVec Ideal S1024x128 .f32} {b : Fin 100000 → EReal} (h : ∀ i, seq x (pos i) = b i) :
    Masked (descB x) (back b) := by
  refine ⟨fun i => ?_, fun i hi => ?_⟩
  · show descB x (at' (pos i)) = _
    rw [descB_apply, if_pos (show (pos i).val < 100000 from i.isLt)]
    refine (h ⟨99999 - i.val, by omega⟩).trans (congrArg b (Fin.ext ?_))
    rw [Fin.val_rev]
    show 99999 - i.val = _
    omega
  · show descB x (at' i) = _
    rw [descB_apply, if_neg hi, Ideal.ofBits_zero_f32]

end Cert.Proof.Value
-- ==== Proof.Value.Entry.lean ====
module

public import proofs.«01_k».proof.Proof.Value.Unique
public import Idealize.ShloMosaic.Lib.KernelVsHost
public import Idealize.ShloMosaic.Lib.Pipeline.Value

@[expose] public section

noncomputable section

namespace Cert.Proof.Value

open Cert.KernelIdeal Cert.KernelIdeal.Gen Cert.Proof.KI
open Idealize.ShloMosaic Idealize.ShloMosaic.ValueIdx Idealize.ShloMosaic.TcCoe

/-! ## The arrays the kernel is launched on -/

/-- The number the host pads with. -/
def padWith : FVec Ideal S_ .f32 := sitofp .f32 (constantI S_ 32 0#32)

/-- A cloud as the kernel takes it: padded, and each coordinate laid out along the tile's lanes. -/
def cloud (x : FVec Ideal S100000x3 .f32) : FVec Ideal S3x1024x128 .f32 :=
  transpose S3x1024x128 [0, 2, 1] (shapeCast S3x128x1024 (transpose S3x131072 [1, 0]
    (pad S131072x3 ![0, 0] ![31072, 0] ![0, 0] x padWith pads_S100000x3_S131072x3_0310720_000 h_S_)
    transposes_S131072x3_S3x131072_1_0) shapeCasts_S3x131072_S3x128x1024) transposes_S3x128x1024_S3x1024x128_0_2_1

/-- The directions as the kernel takes them: one row each, padded. -/
def rows (p : FVec Ideal S3x100 .f32) : FVec Ideal S100x1x128 .f32 :=
  pad S100x1x128 ![0, 0, 0] ![0, 0, 125] ![0, 0, 0]
    (broadcastInDim S100x1x3 ![0, 2] bcast_S100x3_S100x1x3_0_2 (transpose S100x3 [1, 0] p transposes_S3x100_S100x3_1_0))
    padWith pads_S100x1x3_S100x1x128_000_000_01250 h_S_

/-- An entry of the laid-out cloud. -/
theorem cloud_apply (x : FVec Ideal S100000x3 .f32) (k : Fin 3) (r : Fin 1024) (l : Fin 128) (i : Fin 100000)
    (hi : i.val = l.val * 1024 + r.val) : cloud x (ix3 k r l) = x (ix2 i k) := by
  have hn : l.val * 1024 + r.val < 131072 := by have := i.isLt; omega
  unfold cloud
  rw [transpose_apply _ _ _ (ix3 k r l) (ix3 k l r) (by intro b; match b with | ⟨0, _⟩ => rfl | ⟨1, _⟩ => rfl | ⟨2, _⟩ => rfl)]
  rw [shapeCast_apply _ _ (ix3 k l r) (ix2 k ⟨l.val * 1024 + r.val, hn⟩) (by
    rw [Shape.rowMajor_val_two, Shape.rowMajor_val_three]
    show k.val * 131072 + (l.val * 1024 + r.val) = (k.val * 128 + l.val) * 1024 + r.val
    omega)]
  rw [transpose_apply _ _ _ (ix2 k ⟨l.val * 1024 + r.val, hn⟩) (ix2 ⟨l.val * 1024 + r.val, hn⟩ k)
    (by intro b; match b with | ⟨0, _⟩ => rfl | ⟨1, _⟩ => rfl)]
  exact pad_apply_of_inside _ _ _ _ _ _ _ _ (ix2 i k) (by
    intro a
    match a with
    | ⟨0, _⟩ => show l.val * 1024 + r.val = 0 + i.val * 1; omega
    | ⟨1, _⟩ => show k.val = 0 + k.val * 1; omega)

/-- An entry of the laid-out directions. -/
theorem rows_apply (p : FVec Ideal S3x100 .f32) (k : Fin 3) (l : Fin 128) (t : Fin 100) (hl : l.val = k.val) :
    rows p (ix3 t 0 l) = p (ix2 k t) := by
  unfold rows
  rw [pad_apply_of_inside _ _ _ _ _ _ _ _ (ix3 t 0 k) (by
    intro a
    match a with
    | ⟨0, _⟩ => show t.val = 0 + t.val * 1; omega
    | ⟨1, _⟩ => rfl
    | ⟨2, _⟩ => show l.val = 0 + k.val * 1; omega)]
  rw [broadcastInDim_apply _ _ _ (ix3 t 0 k) (ix2 t k) (by intro a; match a with | ⟨0, _⟩ => rfl | ⟨1, _⟩ => rfl)]
  exact transpose_apply _ _ _ (ix2 t k) (ix2 k t) (by intro b; match b with | ⟨0, _⟩ => rfl | ⟨1, _⟩ => rfl)

variable (m : (ℓ : Loc nD τ sig) → Buf (Elt Ideal) ℓ)

/-- The first operand at the launch. -/
theorem V_x (c : Dev nD) : V m c main_call0_v3 = cloud (m ((c : Thread nD τ).loc main_arg0)) := by
  unfold V V0 cloud padWith
  simp only [List.flatten_cons, List.flatten_nil, List.append_nil, hostOps0]
  after_results
  rfl
/-- The second operand at the launch. -/
theorem V_y (c : Dev nD) : V m c main_call0_v7 = cloud (m ((c : Thread nD τ).loc main_arg1)) := by
  unfold V V0 cloud padWith
  simp only [List.flatten_cons, List.flatten_nil, List.append_nil, hostOps0]
  after_results
  rfl
/-- The third operand at the launch. -/
theorem V_p (c : Dev nD) : V m c main_call0_v10 = rows (m ((c : Thread nD τ).loc main_arg2)) := by
  unfold V V0 rows padWith
  simp only [List.flatten_cons, List.flatten_nil, List.append_nil, hostOps0]
  after_results
  rfl

/-! ## The blocks the body loads -/

/-- The block numbers of the windows: the clouds' blocks never move, the directions' block is the point's row. -/
theorem block_index : ∀ t : Fin 100, win0_0.index t 0 = 0 ∧ win0_0.index t 1 = 0 ∧ win0_0.index t 2 = 0
    ∧ win0_1.index t 0 = 0 ∧ win0_1.index t 1 = 0 ∧ win0_1.index t 2 = 0
    ∧ win0_2.index t 0 = t.val ∧ win0_2.index t 1 = 0 ∧ win0_2.index t 2 = 0 := by decide

/-- The first cloud's block is the array. -/
theorem blk_x (c : Dev nD) (t : Fin cfg0.N) (k : Fin 3) (r : Fin 1024) (l : Fin 128) :
    (iblk m c 0 t : Vec Ideal S3x1024x128 .f32) (ix3 k r l) = cloud (m ((c : Thread nD τ).loc main_arg0)) (ix3 k r l) := by
  obtain ⟨h0, h1, h2, -⟩ := block_index t
  unfold iblk
  rw [View.read_apply, ← V_x]
  show V m c main_call0_v3 _ = V m c main_call0_v3 _
  congr 1
  funext a
  apply Fin.ext
  match a with
  | ⟨0, _⟩ => show win0_0.index t 0 * 3 + 1 * k.val = k.val; rw [h0]; omega
  | ⟨1, _⟩ => show win0_0.index t 1 * 1024 + 1 * r.val = r.val; rw [h1]; omega
  | ⟨2, _⟩ => show win0_0.index t 2 * 128 + 1 * l.val = l.val; rw [h2]; omega

/-- The second cloud's block is the array. -/
theorem blk_y (c : Dev nD) (t : Fin cfg0.N) (k : Fin 3) (r : Fin 1024) (l : Fin 128) :
    (iblk m c 1 t : Vec Ideal S3x1024x128 .f32) (ix3 k r l) = cloud (m ((c : Thread nD τ).loc main_arg1)) (ix3 k r l) := by
  obtain ⟨-, -, -, h0, h1, h2, -⟩ := block_index t
  unfold iblk
  rw [View.read_apply, ← V_y]
  show V m c main_call0_v7 _ = V m c main_call0_v7 _
  congr 1
  funext a
  apply Fin.ext
  match a with
  | ⟨0, _⟩ => show win0_1.index t 0 * 3 + 1 * k.val = k.val; rw [h0]; omega
  | ⟨1, _⟩ => show win0_1.index t 1 * 1024 + 1 * r.val = r.val; rw [h1]; omega
  | ⟨2, _⟩ => show win0_1.index t 2 * 128 + 1 * l.val = l.val; rw [h2]; omega

/-- The directions' block is the point's row. -/
theorem blk_p (c : Dev nD) (t : Fin 100) (l : Fin 128) :
    (iblk m c 2 t : Vec Ideal S1x1x128 .f32) (ix3 0 0 l) = rows (m ((c : Thread nD τ).loc main_arg2)) (ix3 t 0 l) := by
  obtain ⟨-, -, -, -, -, -, h0, h1, h2⟩ := block_index t
  unfold iblk
  rw [View.read_apply, ← V_p]
  show V m c main_call0_v10 _ = V m c main_call0_v10 _
  congr 1
  funext a
  apply Fin.ext
  match a with
  | ⟨0, _⟩ => show win0_2.index t 0 * 1 + 1 * 0 = t.val; rw [h0]; omega
  | ⟨1, _⟩ => show win0_2.index t 1 * 1 + 1 * 0 = 0; rw [h1]
  | ⟨2, _⟩ => show win0_2.index t 2 * 128 + 1 * l.val = l.val; rw [h2]; omega

end Cert.Proof.Value
-- ==== Proof.Value.Tile.lean ====
module

public import proofs.«01_k».proof.Proof.Value.Entry

@[expose] public section

noncomputable section

namespace Cert.Proof.Value

open Cert.KernelIdeal Cert.KernelIdeal.Gen Cert.Proof.KI
open Idealize.ShloMosaic Idealize.ShloMosaic.ValueIdx Idealize.ShloMosaic.TcCoe

/-! ## The projections -/

/-- The first sum of a cloud's coordinates against a direction. -/
def proj (x : FVec Ideal S100000x3 .f32) (q : Fin 3 → EReal) (i : Fin 100000) : EReal :=
  (x (ix2 i 0) * q 0 + x (ix2 i 1) * q 1) + x (ix2 i 2) * q 2

/-- The kernel's unit direction: the column times the reciprocal root of its square length. -/
def unitK (p : FVec Ideal S3x100 .f32) (t : Fin 100) (k : Fin 3) : EReal :=
  p (ix2 k t) * Ideal.rsqrt ((p (ix2 0 t) * p (ix2 0 t) + p (ix2 1 t) * p (ix2 1 t)) + p (ix2 2 t) * p (ix2 2 t))

/-- The position of a cloud's point in the tile. -/
theorem at_pos (i : Fin 100000) : at' (pos i) = ix2 ⟨i.val % 1024, by omega⟩ ⟨i.val / 1024, by have := i.isLt; omega⟩ := rfl

/-- A loaded plane, as the tile the body makes of it. -/
theorem plane_apply (v : Vec Ideal S1x1024x128 .f32) (r : Fin 1024) (l : Fin 128) :
    shapeCast S1024x128 v shapeCasts_S1x1024x128_S1024x128 (ix2 r l) = v (ix3 0 r l) :=
  shapeCast_apply _ _ _ _ (by
    rw [Shape.rowMajor_val_two, Shape.rowMajor_val_three]
    show (0 * 1024 + r.val) * 128 + l.val = r.val * 128 + l.val
    omega)

/-- A number spread over the tile. -/
theorem spread_apply (v : FVec Ideal S1x1 .f32) (j : S1024x128.Idx) :
    broadcastTo S1024x128 v broadcasts_S1x1_S1024x128 j = v (ix2 0 0) :=
  broadcastTo_apply _ _ _ _ (by intro a; match a with | ⟨0, _⟩ => rfl | ⟨1, _⟩ => rfl)

/-- The row of directions, without its unit axes. -/
theorem row_apply (v : Vec Ideal S1x1x128 .f32) (l : Fin 128) : k0_pay5 v (ix2 0 l) = v (ix3 0 0 l) :=
  shapeCast_apply _ _ _ _ (by
    rw [Shape.rowMajor_val_two, Shape.rowMajor_val_three]
    rfl)

/-- The second cloud's tile is made as the first's. -/
theorem second_eq (v : Vec Ideal S1x1x128 .f32) (v0 v1 v2 : Vec Ideal S1x1024x128 .f32) :
    k0_pay16 k0_pay4 (k0_pay11 v) (k0_pay12 v) (k0_pay14 v v0) v1 v2 = k0_pay15 k0_pay4 (k0_pay13 v v0 v1 v2) := rfl

section direction
variable (p : FVec Ideal S3x100 .f32) (t : Fin 100) (v : Vec Ideal S1x1x128 .f32)
  (hv : v (ix3 0 0 0) = p (ix2 0 t) ∧ v (ix3 0 0 1) = p (ix2 1 t) ∧ v (ix3 0 0 2) = p (ix2 2 t))
include hv

/-- The direction's first entry, as loaded. -/
theorem pay6_apply : k0_pay6 v (ix2 0 0) = p (ix2 0 t) := by
  refine Eq.trans ?_ ((row_apply v 0).trans hv.1)
  exact congrArg (k0_pay5 v) (by funext a; match a with | ⟨0, _⟩ => rfl | ⟨1, _⟩ => rfl)
/-- The direction's second entry, as loaded. -/
theorem pay7_apply : k0_pay7 v (ix2 0 0) = p (ix2 1 t) := by
  refine Eq.trans ?_ ((row_apply v 1).trans hv.2.1)
  exact congrArg (k0_pay5 v) (by funext a; match a with | ⟨0, _⟩ => rfl | ⟨1, _⟩ => rfl)
/-- The direction's third entry, as loaded. -/
theorem pay8_apply : k0_pay8 v (ix2 0 0) = p (ix2 2 t) := by
  refine Eq.trans ?_ ((row_apply v 2).trans hv.2.2)
  exact congrArg (k0_pay5 v) (by funext a; match a with | ⟨0, _⟩ => rfl | ⟨1, _⟩ => rfl)

/-- The reciprocal root of the square length. -/
theorem pay9_apply : k0_pay9 v (ix2 0 0)
    = Ideal.rsqrt ((p (ix2 0 t) * p (ix2 0 t) + p (ix2 1 t) * p (ix2 1 t)) + p (ix2 2 t) * p (ix2 2 t)) := by
  rw [← pay6_apply p t v hv, ← pay7_apply p t v hv, ← pay8_apply p t v hv]
  rfl

/-- The unit direction's first entry. -/
theorem pay10_apply : k0_pay10 v (ix2 0 0) = unitK p t 0 := by
  unfold unitK
  rw [← pay9_apply p t v hv, ← pay6_apply p t v hv]
  rfl
/-- The unit direction's second entry. -/
theorem pay11_apply : k0_pay11 v (ix2 0 0) = unitK p t 1 := by
  unfold unitK
  rw [← pay9_apply p t v hv, ← pay7_apply p t v hv]
  rfl
/-- The unit direction's third entry. -/
theorem pay12_apply : k0_pay12 v (ix2 0 0) = unitK p t 2 := by
  unfold unitK
  rw [← pay9_apply p t v hv, ← pay8_apply p t v hv]
  rfl

/-- The first cloud's tile holds its projections. -/
theorem holdsA (x : FVec Ideal S100000x3 .f32) (v0 v1 v2 : Vec Ideal S1x1024x128 .f32)
    (h0 : ∀ r l, v0 (ix3 0 r l) = cloud x (ix3 0 r l)) (h1 : ∀ r l, v1 (ix3 0 r l) = cloud x (ix3 1 r l))
    (h2 : ∀ r l, v2 (ix3 0 r l) = cloud x (ix3 2 r l)) :
    Holds (k0_pay15 k0_pay4 (k0_pay13 v v0 v1 v2)) (proj x (unitK p t)) := by
  have e : ∀ i : Fin (2 ^ 17), seq (k0_pay15 k0_pay4 (k0_pay13 v v0 v1 v2)) i
      = if i.val < 100000 then k0_pay13 v v0 v1 v2 (at' i) else ⊤ := fun i => by
    have e' : seq (k0_pay15 k0_pay4 (k0_pay13 v v0 v1 v2)) i
      = Scalar.select (k0_pay4 (at' i)) (k0_pay13 v v0 v1 v2 (at' i)) (Ideal.ofBits .f32 0x7F800000#32) := rfl
    rw [e', valid_apply, select_bool, bits_top]
    simp only [decide_eq_true_eq]
  refine ⟨fun i => ?_, fun i hi => by rw [e, if_neg hi]⟩
  rw [e, if_pos (show (pos i).val < 100000 from i.isLt), at_pos]
  have e'' : ∀ j, k0_pay13 v v0 v1 v2 j
      = (shapeCast S1024x128 v0 shapeCasts_S1x1024x128_S1024x128 j * broadcastTo S1024x128 (k0_pay10 v) broadcasts_S1x1_S1024x128 j
        + shapeCast S1024x128 v1 shapeCasts_S1x1024x128_S1024x128 j * broadcastTo S1024x128 (k0_pay11 v) broadcasts_S1x1_S1024x128 j)
        + shapeCast S1024x128 v2 shapeCasts_S1x1024x128_S1024x128 j * broadcastTo S1024x128 (k0_pay12 v) broadcasts_S1x1_S1024x128 j :=
    fun j => rfl
  rw [e'']
  rw [plane_apply v0, plane_apply v1, plane_apply v2, spread_apply, spread_apply, spread_apply]
  rw [h0, h1, h2, pay10_apply p t v hv, pay11_apply p t v hv, pay12_apply p t v hv]
  have hpos : ∀ k : Fin 3, cloud x (ix3 k ⟨i.val % 1024, by omega⟩ ⟨i.val / 1024, by have := i.isLt; omega⟩) = x (ix2 i k) :=
    fun k => cloud_apply x k _ _ i (by show i.val = i.val / 1024 * 1024 + i.val % 1024; omega)
  rw [hpos, hpos, hpos]
  rfl

end direction

end Cert.Proof.Value
-- ==== Proof.Value.Point.lean ====
module

public import proofs.«01_k».proof.Proof.Value.Tile

@[expose] public section

noncomputable section

namespace Cert.Proof.Value

open Cert.KernelIdeal Cert.KernelIdeal.Gen Cert.Proof.KI
open Idealize.ShloMosaic Idealize.ShloMosaic.ValueIdx Idealize.ShloMosaic.TcCoe

variable (m : (ℓ : Loc nD τ sig) → Buf (Elt Ideal) ℓ)

/-- A loaded plane of a block, entry by entry. -/
theorem load_plane (x : Vec Ideal S3x1024x128 .f32) (k : Fin 3) (h) (r : Fin 1024) (l : Fin 128) :
    View.ld x (Rect.unit (s := S3x1024x128) ![k.val, 0, 0] S1x1024x128.size h) (ix3 0 r l) = x (ix3 k r l) := by
  unfold View.ld
  refine congrArg x (funext fun a => Fin.ext ?_)
  match a with
  | ⟨0, _⟩ => show k.val + 1 * 0 = k.val; omega
  | ⟨1, _⟩ => show 0 + 1 * r.val = r.val; omega
  | ⟨2, _⟩ => show 0 + 1 * l.val = l.val; omega

/-- The loaded row of directions, entry by entry. -/
theorem load_row (x : Vec Ideal S1x1x128 .f32) (h) (l : Fin 128) :
    View.ld x (Rect.unit (s := S1x1x128) ![0, 0, 0] S1x1x128.size h) (ix3 0 0 l) = x (ix3 0 0 l) := by
  unfold View.ld
  refine congrArg x (funext fun a => Fin.ext ?_)
  match a with
  | ⟨0, _⟩ => rfl
  | ⟨1, _⟩ => rfl
  | ⟨2, _⟩ => show 0 + 1 * l.val = l.val; omega

/-- What a point adds, from tiles that hold the projections. -/
theorem addend_eq {v7 : Vec Ideal S1x1x128 .f32} {v21 v25 v30 v35 v39 v44 : Vec Ideal S1x1024x128 .f32}
    {p p' : Fin 100000 → EReal} (hA : Holds (k0_pay15 k0_pay4 (k0_pay13 v7 v21 v25 v30)) p)
    (hB : Holds (k0_pay15 k0_pay4 (k0_pay13 v7 v35 v39 v44)) p')
    (τ τ' : Equiv.Perm (Fin 100000)) (hτ : Monotone (p ∘ τ)) (hτ' : Monotone (p' ∘ τ')) :
    addend v7 v21 v25 v30 v35 v39 v44
      = min (cost (p ∘ τ) (p' ∘ τ')) (cost (p ∘ τ) (back (p' ∘ τ'))) * ((1 / 100 : ℝ) : EReal) := by
  have ha := sorted_apply hA τ hτ
  have hb : ∀ i, seq (sortedB v7 v35 v39 v44) (pos i) = p' (τ' i) := fun i => by
    unfold sortedB
    rw [sortB_eq, second_eq]
    exact sorted_apply hB τ' hτ' i
  exact costOf_masked (masked_apply ha) (masked_apply hb) (descB_masked hb)

/-- What point `t` adds: the smaller cost of the clouds projected on direction `t` and put in order, over 100. -/
theorem addAt_eq (c : Dev nD) (t : Fin 100) (u : Fin 3 → EReal) (hu : unitK (m (c.tc.loc main_arg2)) t = u)
    (σ σ' : Equiv.Perm (Fin 100000)) (hσ : Monotone (proj (m (c.tc.loc main_arg0)) u ∘ σ))
    (hσ' : Monotone (proj (m (c.tc.loc main_arg1)) u ∘ σ')) :
    addAt m c t = min (cost (proj (m (c.tc.loc main_arg0)) u ∘ σ) (proj (m (c.tc.loc main_arg1)) u ∘ σ'))
      (cost (proj (m (c.tc.loc main_arg0)) u ∘ σ) (back (proj (m (c.tc.loc main_arg1)) u ∘ σ'))) * ((1 / 100 : ℝ) : EReal) := by
  subst hu
  unfold addAt pointAdd
  have hv := fun (k : Fin 3) (l : Fin 128) (hl : l.val = k.val) =>
    ((load_row (iblk m c 2 t) inb_S1x1x128_S1x1x128_0_0_0 l).trans (blk_p m c t l)).trans (rows_apply (m (c.tc.loc main_arg2)) k l t hl)
  refine addend_eq (holdsA _ t _ ⟨hv 0 0 rfl, hv 1 1 rfl, hv 2 2 rfl⟩ _ _ _ _ ?_ ?_ ?_)
    (holdsA _ t _ ⟨hv 0 0 rfl, hv 1 1 rfl, hv 2 2 rfl⟩ _ _ _ _ ?_ ?_ ?_) σ σ' hσ hσ'
  · exact fun r l => (load_plane _ 0 _ r l).trans (blk_x m c t 0 r l)
  · exact fun r l => (load_plane _ 1 _ r l).trans (blk_x m c t 1 r l)
  · exact fun r l => (load_plane _ 2 _ r l).trans (blk_x m c t 2 r l)
  · exact fun r l => (load_plane _ 0 _ r l).trans (blk_y m c t 0 r l)
  · exact fun r l => (load_plane _ 1 _ r l).trans (blk_y m c t 1 r l)
  · exact fun r l => (load_plane _ 2 _ r l).trans (blk_y m c t 2 r l)

/-! ## The total -/

/-- The number of points. -/
theorem points : cfg0.N = 100 := by decide

/-- A point's contribution, zero past the last. -/
def part (c : Dev nD) (n : ℕ) : EReal := if h : n < cfg0.N then addAt m c ⟨n, h⟩ else 0

/-- The running total is the sum of the points' contributions. -/
theorem totAt_eq (c : Dev nD) : ∀ (n : ℕ) (h : n < cfg0.N) (j : S1x1.Idx), totAt m c n h j = ∑ k ∈ Finset.range (n + 1), part m c k
  | 0, h, j => by
    have e : totAt m c 0 h j = Ideal.ofBits .f32 0x00000000#32 + addAt m c ⟨0, h⟩ := rfl
    rw [e, Ideal.ofBits_zero_f32, zero_add, Finset.sum_range_one, part, dif_pos h]
  | n + 1, h, j => by
    have e : totAt m c (n + 1) h j = totAt m c n (Nat.lt_of_succ_lt h) j + addAt m c ⟨n + 1, h⟩ := by
      show k0_pay2 (addAt m c ⟨n + 1, h⟩) (totAt m c n (Nat.lt_of_succ_lt h)) j = _
      unfold k0_pay2
      rw [shapeCast_self]
      rfl
    rw [e, totAt_eq c n, Finset.sum_range_succ _ (n + 1), part, dif_pos h]

/-- The total after the last point. -/
theorem total_eq (c : Dev nD) (h : 99 < cfg0.N) (j : S1x1.Idx) : totAt m c 99 h j = ∑ t : Fin 100, addAt m c t := by
  rw [totAt_eq, Finset.sum_range]
  refine Finset.sum_congr rfl fun t _ => ?_
  rw [part, dif_pos (show t.val < cfg0.N from t.isLt)]
  rfl

end Cert.Proof.Value
-- ==== Proof.Value.Total.lean ====
module

public import proofs.«01_k».proof.Proof.Value.Point
public import Idealize.ShloMosaic.Lib.Quiescent

@[expose] public section

noncomputable section

namespace Cert.Proof.Value

open Cert.KernelIdeal Cert.KernelIdeal.Gen Cert.Proof.KI
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The last point. -/
def last : Fin cfg0.N := ⟨99, by rw [points]; decide⟩

/-- The result array's contents: the total after the last point. -/
abbrev outcome (c : Dev nD) : Buf (Elt Ideal) ((c : Thread nD τ).loc main_call0_v11) := totAt m c 99 last.isLt

/-- The result's block never moves. -/
theorem out_index : (fun a => win0_3.index last a * main_call0_v11.ty.shape.size a) = fun _ => 0 := by
  funext a
  have h : ∀ a : Fin 2, win0_3.index last a = 0 := by decide
  match a with
  | ⟨0, _⟩ => show win0_3.index last 0 * _ = 0; rw [h]; exact Nat.zero_mul _
  | ⟨1, _⟩ => show win0_3.index last 1 * _ = 0; rw [h]; exact Nat.zero_mul _

/-- The one write-back leaves the total. -/
theorem flushed_eq (c : Dev nD) (t : Fin cfg0.N) (hf : (cfg0.win 3).flush t = true) :
    (dats m 0 c).flushed 3 t = ((cfg0.win 3).blk t).view.read (Elt Ideal) (outcome m c) := by
  have h99 : t.val = 99 := by have := (flush0_3 t).mp hf; have := lt_of_lt_of_eq t.isLt points; omega
  obtain rfl : t = last := Fin.ext h99
  show (cfg0.win 3).cut (grid0.coords last) ((dats m 0 c).after 3 last) = _
  rw [after0_3]
  exact (Memref.read_access_unit_zero (Elt Ideal) main_call0_v11 out_index (fun a => by rw [congrFun out_index a]; simp) (outcome m c)).symm

/-- So the result array ends at the total. -/
theorem final_o (c : Dev nD) : (dats m 0 c).arrAt 3 cfg0.N = outcome m c :=
  (dats m 0 c).arrAt_eq_of_cover 3 (outcome m c) (flushed_eq m c) fun i =>
    ⟨last, (flush0_3 last).mpr rfl, by
      show i ∈ ((View.whole main_call0_v11).slice (win0_3.rect last)).set
      rw [View.set_slice_whole, Rect.mem_set_unit]
      intro a
      have h0 : (i 0 : Nat) < 1 := (i 0).isLt
      have h1 : (i 1 : Nat) < 1 := (i 1).isLt
      have hi : ∀ a : Fin 2, win0_3.index last a = 0 := by decide
      match a with
      | ⟨0, _⟩ => show win0_3.index last 0 * 1 ≤ (i 0 : Nat) ∧ (i 0 : Nat) < win0_3.index last 0 * 1 + 1
                  rw [hi]; omega
      | ⟨1, _⟩ => show win0_3.index last 1 * 1 ≤ (i 1 : Nat) ∧ (i 1 : Nat) < win0_3.index last 1 * 1 + 1
                  rw [hi]; omega⟩

/-- What the program returns. -/
theorem W_main_v0 (c : Dev nD) :
    Pipeline.afterTail₀ cfgs (dats m) 0 (V0 m) [hostOps1] c main_v0 = fun _ => ∑ t : Fin 100, addAt m c t := by
  have key : Pipeline.withArrays (cfgs 0).spec c (V0 m c) (fun w => (dats m 0 c).arrAt w (cfgs 0).N) (Proc.devRef .tc main_call0_v11)
      = outcome m c := (Pipeline.withArrays_arr spec0 (by decide) c _ _ 3).trans (final_o m c)
  have e : Pipeline.afterTail₀ cfgs (dats m) 0 (V0 m) [hostOps1] c main_v0
      = shapeCast S_ (outcome m c : FVec Ideal S1x1 .f32) shapeCasts_S1x1_S_ := by
    unfold Pipeline.afterTail₀
    simp only [hostOps1, List.flatten_cons, List.flatten_nil, List.append_nil]
    after_results
    exact congrArg (fun x : FVec Ideal S1x1 .f32 => shapeCast S_ x shapeCasts_S1x1_S_) key
  rw [e]
  funext j
  exact total_eq m c last.isLt _

/-- The run, read: the result is the sum of what the points add, and the arguments are as launched. -/
theorem run : θ_run defs (onTc (τ := τ) (main (F := Ideal))) ⟨m, fun _ => 0, ρ⟩ fun r => ∀ c : Dev nD,
      r.2.mem ((c.tc : Thread nD τ).loc main_v0) = (fun _ => ∑ t : Fin 100, addAt m c t)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h.1 c).2 main_v0 (Pipeline.mem_restRefs_of main_v0 (by decide) (by decide))).trans (W_main_v0 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩)
    (run_main m ρ)

end Cert.Proof.Value
-- ==== Proof.Value.Norm.lean ====
module

public import proofs.«01_k».proof.Proof.Value.Tile

@[expose] public section

noncomputable section

namespace Cert.Proof.Value

open Idealize.ShloMosaic Idealize.ShloMosaic.ValueIdx

/-- A square is not negative. -/
theorem sq_nonneg' (a : EReal) : 0 ≤ a * a := by
  induction a with
  | bot => simp
  | top => simp
  | coe r => rw [← EReal.coe_mul]; exact EReal.coe_nonneg.mpr (mul_self_nonneg r)

/-- The square of a number that is not zero is positive. -/
theorem sq_pos' {a : EReal} (h : a ≠ 0) : 0 < a * a := by
  induction a with
  | bot => simp
  | top => simp
  | coe r =>
    have hr : r ≠ 0 := fun e => h (by rw [e]; rfl)
    rw [← EReal.coe_mul]
    exact EReal.coe_pos.mpr (mul_self_pos.mpr hr)

/-- The square length of a column with an entry that is not zero is positive. -/
theorem length_pos {a b c : EReal} (h : a ≠ 0 ∨ b ≠ 0 ∨ c ≠ 0) : 0 < (a * a + b * b) + c * c := by
  rcases h with h | h | h
  · exact ((sq_pos' h).trans_le (le_add_of_nonneg_right (sq_nonneg' b))).trans_le (le_add_of_nonneg_right (sq_nonneg' c))
  · exact ((sq_pos' h).trans_le (le_add_of_nonneg_left (sq_nonneg' a))).trans_le (le_add_of_nonneg_right (sq_nonneg' c))
  · exact (sq_pos' h).trans_le (le_add_of_nonneg_left (add_nonneg (sq_nonneg' a) (sq_nonneg' b)))

/-- Dividing by the root is multiplying by the reciprocal root, where the number is positive. -/
theorem div_sqrt {s : EReal} (h : 0 < s) (x : EReal) : Ideal.div x (Ideal.sqrt s) = x * Ideal.rsqrt s := by
  induction s with
  | bot => exact absurd h (by simp)
  | top =>
    show Ideal.div x ⊤ = x * 0
    unfold Ideal.div
    rw [if_neg (by simp), EReal.inv_top]
  | coe r =>
    have hr : 0 < r := EReal.coe_pos.mp h
    have hs : Real.sqrt r ≠ 0 := (Real.sqrt_pos.mpr hr).ne'
    have e1 : Ideal.sqrt (r : EReal) = ((Real.sqrt r : ℝ) : EReal) := by
      show (if r < 0 then ⊥ else ((Real.sqrt r : ℝ) : EReal)) = _
      rw [if_neg (not_lt.mpr hr.le)]
    have e2 : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.mpr hr.le), if_neg hr.ne']
    rw [e1, e2, Ideal.div_coe hs, one_div]

/-- A factor that is a positive number distributes over a sum. -/
theorem sum_mul_real {ι : Type} (s : Finset ι) (f : ι → EReal) (r : ℝ) (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

end Cert.Proof.Value
-- ==== Proof.Value.HostSort.lean ====
module

public import proofs.«01_k».proof.Proof.Gen.ReferenceIdeal.Run
public import proofs.«01_k».proof.Proof.Value.Norm
public import Idealize.ShloMosaic.Lib.SortFacts
public import Idealize.ShloMosaic.Lib.IdealHost
public import Idealize.ShloMosaic.Lib.StackMember
public import Idealize.ShloMosaic.Lib.Pointwise.Reduce

@[expose] public section

noncomputable section

namespace Cert.Proof.Value

open Cert.ReferenceIdeal Cert.ReferenceIdeal.Gen
open Idealize.ShloMosaic hiding ix1 ix2
open Idealize.ShloMosaic.ValueIdx

/-- The reference's comparator is the order. -/
theorem before_iff (l r : EReal) : (comparator_f32_d0 (F := Ideal) l r == 1#1) = decide (l < r) := by
  have hz : ∀ x : EReal, Scalar.select (Ideal.cmp .oeq x (Ideal.ofBits .f32 0x00000000#32)) (Ideal.ofBits .f32 0x00000000#32) x = x := fun x => by
    unfold Ideal.cmp
    rw [select_bool]
    by_cases h : x = Ideal.ofBits .f32 0x00000000#32
    · rw [if_pos (by simpa using h), h]
    · rw [if_neg (by simpa using h)]
  have hn : ∀ x y : EReal, Scalar.select (Ideal.cmp .une x x) (Ideal.ofBits .f32 0x7FC00000#32) y = y := fun x y => by
    unfold Ideal.cmp
    rw [select_bool, if_neg (by simp)]
  have e : comparator_f32_d0 (F := Ideal) l r = Ideal.cmp .olt
      (Scalar.select (Ideal.cmp .une l l) (Ideal.ofBits .f32 0x7FC00000#32)
        (Scalar.select (Ideal.cmp .oeq l (Ideal.ofBits .f32 0x00000000#32)) (Ideal.ofBits .f32 0x00000000#32) l))
      (Scalar.select (Ideal.cmp .une r r) (Ideal.ofBits .f32 0x7FC00000#32)
        (Scalar.select (Ideal.cmp .oeq r (Ideal.ofBits .f32 0x00000000#32)) (Ideal.ofBits .f32 0x00000000#32) r)) := rfl
  rw [e, hz, hz, hn, hn]
  unfold Ideal.cmp
  by_cases h : l < r
  · simp [h]
  · simp [h]

/-- The order the reference puts a sequence in. -/
def order {n : Nat} (f : Fin n → EReal) : Equiv.Perm (Fin n) :=
  Equiv.ofBijective (sortedFrom fun k k' => decide (f k < f k')) ⟨sortedFrom_injective _, sortedFrom_surjective _⟩

/-- It is an increasing one. -/
theorem order_monotone {n : Nat} (f : Fin n → EReal) : Monotone (f ∘ order f) := by
  intro i j hij
  rcases eq_or_lt_of_le hij with rfl | hlt
  · exact le_refl _
  · have h := sortedFrom_noInversion (fun k k' => decide (f k < f k')) (fun k k' => decide (f k < f k'))
      (fun a b hab => decide_eq_false (not_lt.mpr (of_decide_eq_true hab).le)) (fun a b hab => hab)
      (fun a b c hab hbc => decide_eq_false (not_lt.mpr ((not_lt.mp (of_decide_eq_false hbc)).trans (not_lt.mp (of_decide_eq_false hab)))))
      i j hlt
    exact not_lt.mp (of_decide_eq_false h)

/-- An entry of an array sorted along its first axis. -/
theorem sort_apply {n l : Nat} (x : FVec Ideal ⟨2, ![n, l]⟩ .f32) (i : Fin n) (t : Fin l) :
    Host.sort ⟨2, ![n, l]⟩ 0 comparator_f32_d0 x (ix2 i t) = x (ix2 (order (fun k => x (ix2 k t)) i) t) := by
  have hal : ∀ k : Fin n, Shape.Idx.along (s := ⟨2, ![n, l]⟩) (ix2 i t) (0 : Fin 2) k = ix2 k t := fun k => by
    funext a
    match a with
    | ⟨0, _⟩ => exact Function.update_self ..
    | ⟨1, h⟩ => exact Function.update_of_ne (fun e => absurd (congrArg Fin.val e) (by simp)) ..
  have e : Host.sort ⟨2, ![n, l]⟩ 0 comparator_f32_d0 x (ix2 i t)
      = x (Shape.Idx.along (s := ⟨2, ![n, l]⟩) (ix2 i t) (0 : Fin 2) (sortedFrom (fun k k' : Fin n =>
          comparator_f32_d0 (F := Ideal) (x (Shape.Idx.along (s := ⟨2, ![n, l]⟩) (ix2 i t) (0 : Fin 2) k))
            (x (Shape.Idx.along (s := ⟨2, ![n, l]⟩) (ix2 i t) (0 : Fin 2) k')) == 1#1) i)) := rfl
  refine e.trans ((congrArg x (hal _)).trans (congrArg (fun k => x (ix2 k t)) ?_))
  refine congrArg (fun b => sortedFrom b i) (funext fun k => funext fun k' => ?_)
  exact (congrArg₂ (fun a b => comparator_f32_d0 (F := Ideal) a b == 1#1) (congrArg x (hal k)) (congrArg x (hal k'))).trans (before_iff _ _)

/-- The reference's product of a cloud with the directions. -/
theorem dot_apply (x : FVec Ideal S100000x3 .f32) (u : FVec Ideal S3x100 .f32) (i : Fin 100000) (t : Fin 100) :
    Host.dotGeneral dot_S100000x3_S3x100_S100000x100_1_0_0_1_n_n none x u (ix2 i t) = proj x (fun k => u (ix2 k t)) i := by
  refine (StackMember.dotGeneral_plain_apply none x u i t).trans ?_
  exact Fin.sum_univ_three _

/-- The sum over a column, on the host. -/
theorem colSum_apply {n l : Nat} (h : (⟨2, ![n, l]⟩ : Shape).ReducesTo [0] ⟨1, ![l]⟩) (x : FVec Ideal ⟨2, ![n, l]⟩ .f32) (hu : 0 < S_.numel) (t : Fin l) :
    Host.reduceAdd x (constant S_ .f32 0x00000000#32) h hu (ix1 t) = ∑ k : Fin n, x (ix2 k t) := by
  rw [hostReduceAdd_apply, Ideal.hostReduceAdd_r2_a0]
  show Ideal.ofBits .f32 0x00000000#32 + _ = _
  rw [Ideal.ofBits_zero_f32, zero_add]
  refine Finset.sum_congr rfl fun k _ => congrArg x ?_
  funext a
  match a with
  | ⟨0, _⟩ => rfl
  | ⟨1, _⟩ => rfl

end Cert.Proof.Value
-- ==== Proof.Value.Ref.lean ====
module

public import proofs.«01_k».proof.Proof.Value.HostSort

@[expose] public section

noncomputable section

namespace Cert.Proof.Value

open Cert.ReferenceIdeal Cert.ReferenceIdeal.Gen Cert.ReferenceIdeal.Value
open Idealize.ShloMosaic hiding ix1 ix2
open Idealize.ShloMosaic.ValueIdx

/-- The reference's sum of every column. -/
def colSum (x : FVec Ideal S100000x100 .f32) : FVec Ideal S100 .f32 :=
  Host.reduceAdd x (constant S_ .f32 0x00000000#32) reducesTo_S100000x100_S100_d0 h_S_

/-- The reference's cost of pairing two arrays entry by entry, over each column. -/
def hostCost (x y : FVec Ideal S100000x100 .f32) (j : S100.Idx) : EReal :=
  Ideal.div (poly (Ideal.ofBits .f32 0x40000000#32) (Ideal.ofBits .f32 0x47C35000#32) (Ideal.ofBits .f32 0x41000000#32)
      (Ideal.ofBits .f32 0x40C00000#32) (Ideal.ofBits .f32 0x48435000#32)
      (colSum x j) (colSum (mulf x x) j) (colSum (mulf (mulf x x) x) j) (colSum (mulf (mulf x x) (mulf x x)) j)
      (colSum y j) (colSum (mulf y y) j) (colSum (mulf (mulf y y) y) j) (colSum (mulf (mulf y y) (mulf y y)) j)
      (colSum (mulf x y) j) (colSum (mulf (mulf x x) y) j) (colSum (mulf x (mulf y y)) j) (colSum (mulf (mulf x x) (mulf y y)) j))
    (Ideal.ofBits .f32 0x501502F9#32)

/-- It is the cost of the two columns. -/
theorem hostCost_eq (x y : FVec Ideal S100000x100 .f32) (t : Fin 100) :
    hostCost x y (ix1 t) = cost (fun i => x (ix2 i t)) (fun i => y (ix2 i t)) := by
  have h : ∀ z : FVec Ideal S100000x100 .f32, colSum z (ix1 t) = ∑ k : Fin 100000, z (ix2 k t) :=
    fun z => colSum_apply reducesTo_S100000x100_S100_d0 z h_S_ t
  unfold hostCost cost
  rw [bits_2, bits_n, bits_8, bits_6, bits_2n, bits_nn, Ideal.div_coe (by norm_num)]
  simp only [h]
  rfl

/-- The reference's unit directions. -/
def units (p : FVec Ideal S3x100 .f32) : FVec Ideal S3x100 .f32 :=
  Host.divf p (broadcastInDim S3x100 ![0, 1] bcast_S1x100_S3x100_0_1 (Host.sqrt (broadcastInDim S1x100 ![1] bcast_S100_S1x100_1
    (Host.reduceAdd (mulf p p) (constant S_ .f32 0x00000000#32) reducesTo_S3x100_S100_d0 h_S_))))

/-- The reference's unit direction is the kernel's, where the column has an entry that is not zero. -/
theorem units_eq (p : FVec Ideal S3x100 .f32) (t : Fin 100)
    (h : p (ix2 0 t) ≠ 0 ∨ p (ix2 1 t) ≠ 0 ∨ p (ix2 2 t) ≠ 0) (k : Fin 3) : units p (ix2 k t) = unitK p t k := by
  unfold units
  rw [hostDivf_apply, broadcastInDim_apply _ _ _ _ (ix2 0 t) (by intro a; match a with | ⟨0, _⟩ => rfl | ⟨1, _⟩ => rfl)]
  have e : broadcastInDim S1x100 ![1] bcast_S100_S1x100_1
      (Host.reduceAdd (mulf p p) (constant S_ .f32 0x00000000#32) reducesTo_S3x100_S100_d0 h_S_) (ix2 0 t)
      = (p (ix2 0 t) * p (ix2 0 t) + p (ix2 1 t) * p (ix2 1 t)) + p (ix2 2 t) * p (ix2 2 t) := by
    rw [broadcastInDim_apply _ _ _ _ (ix1 t) (by intro a; match a with | ⟨0, _⟩ => rfl), colSum_apply]
    exact Fin.sum_univ_three _
  exact (congrArg (fun s => Ideal.div (p (ix2 k t)) (Ideal.sqrt s)) e).trans (div_sqrt (length_pos h) _)

/-- The reference's sorted projections of a cloud. -/
def sorted (z : FVec Ideal S100000x3 .f32) (p : FVec Ideal S3x100 .f32) : FVec Ideal S100000x100 .f32 :=
  Host.sort S100000x100 0 comparator_f32_d0 (Host.dotGeneral dot_S100000x3_S3x100_S100000x100_1_0_0_1_n_n none z (units p))

/-- They are the kernel's projections, put in order. -/
theorem sorted_col (z : FVec Ideal S100000x3 .f32) (p : FVec Ideal S3x100 .f32) (t : Fin 100)
    (h : p (ix2 0 t) ≠ 0 ∨ p (ix2 1 t) ≠ 0 ∨ p (ix2 2 t) ≠ 0) (i : Fin 100000) :
    sorted z p (ix2 i t) = (proj z (unitK p t) ∘ order (proj z (unitK p t))) i := by
  have e : (fun k => Host.dotGeneral dot_S100000x3_S3x100_S100000x100_1_0_0_1_n_n none z (units p) (ix2 k t)) = proj z (unitK p t) :=
    funext fun k => (dot_apply z (units p) k t).trans (congrArg (fun u => proj z u k) (funext (units_eq p t h)))
  exact (sort_apply _ i t).trans ((congrFun e _).trans (congrArg (fun f => proj z (unitK p t) (order f i)) e))

/-- A reversed array, entry by entry. -/
theorem reverse_apply (x : FVec Ideal S100000x100 .f32) (i : Fin 100000) (t : Fin 100) :
    Host.reverse [0] x (ix2 i t) = x (ix2 i.rev t) := by
  refine congrArg x ?_
  funext a
  match a with
  | ⟨0, _⟩ => exact if_pos (by simp)
  | ⟨1, _⟩ => exact if_neg (by simp)

/-- The reference's value for each direction, from its arguments. -/
def values (x y : FVec Ideal S100000x3 .f32) (p : FVec Ideal S3x100 .f32) : FVec Ideal S100 .f32 := fun j =>
  min (hostCost (sorted x p) (sorted y p) j) (hostCost (sorted x p) (Host.reverse [0] (sorted y p)) j)

/-- It is what the reference computes. -/
theorem v147_values (V0 : Valuation τ sig (Elt Ideal)) :
    res_main_v147 V0 = values (V0 (Proc.devRef .tc main_arg0)) (V0 (Proc.devRef .tc main_arg1)) (V0 (Proc.devRef .tc main_arg2)) := rfl

/-- The reference's value for a direction, in the kernel's terms. -/
theorem values_apply (x y : FVec Ideal S100000x3 .f32) (p : FVec Ideal S3x100 .f32) (t : Fin 100)
    (h : p (ix2 0 t) ≠ 0 ∨ p (ix2 1 t) ≠ 0 ∨ p (ix2 2 t) ≠ 0) :
    values x y p (ix1 t) =
      min (cost (proj x (unitK p t) ∘ order (proj x (unitK p t))) (proj y (unitK p t) ∘ order (proj y (unitK p t))))
        (cost (proj x (unitK p t) ∘ order (proj x (unitK p t))) (back (proj y (unitK p t) ∘ order (proj y (unitK p t))))) := by
  unfold values
  rw [hostCost_eq, hostCost_eq, funext (sorted_col x p t h), funext (sorted_col y p t h),
    funext fun i => (reverse_apply (sorted y p) i t).trans (sorted_col y p t h i.rev)]
  rfl

/-- The reference's result, from its values for the directions. -/
theorem mean_eq (v : FVec Ideal S100 .f32) :
    Host.divf (Host.reduceAdd v (constant S_ .f32 0x00000000#32) reducesTo_S100_S_d0 h_S_) (constant S_ .f32 0x42C80000#32)
      = fun _ => ∑ t : Fin 100, v (ix1 t) * ((1 / 100 : ℝ) : EReal) := by
  funext j
  rw [hostDivf_apply, hostReduceAdd_apply, Ideal.hostReduceAdd_total _ (fun b => b.elim0), sum_mul_real _ _ _ (by norm_num)]
  show Ideal.div (Ideal.ofBits .f32 0x00000000#32 + _) (Ideal.ofBits .f32 0x42C80000#32) = _
  rw [Ideal.ofBits_zero_f32, zero_add, bits_100, Ideal.div_coe (by norm_num), sum_idx1]
  rfl

end Cert.Proof.Value
-- ==== Proof.Value.Directions.lean ====
module

public import proofs.«01_k».proof.Pre_directions
public import proofs.«01_k».proof.Proof.Value.Tile
public import Idealize.ShloMosaic.Lib.ValueLayout

@[expose] public section

noncomputable section

namespace Cert.Proof.Value

open Cert.Pre_directions
open Idealize.ShloMosaic Idealize.ShloMosaic.ValueIdx

/-- One row of the directions, as a vector. -/
theorem direction_apply (off : Fin 2 → Nat) (k : Fin 3) (h0 : off 0 = k.val) (h1 : off 1 = 0) (p : FVec Ideal S3x100 .f32)
    (hs : S3x100.Slices off S1x100) (hc : S1x100.ShapeCasts S100) (t : Fin 100) :
    shapeCast S100 (extractStridedSlice S1x100 off p hs) hc (ix1 t) = p (ix2 k t) := by
  rw [shapeCast_1a_a_apply]
  refine extractStridedSlice_apply off p hs _ _ fun a => ?_
  match a with
  | ⟨0, _⟩ => exact (h0.trans (Nat.add_zero _).symm).symm
  | ⟨1, _⟩ => exact ((congrArg (· + t.val) h1).trans (Nat.zero_add _)).symm

/-- What the precondition says: every column has an entry that is not zero. -/
theorem directions_apply [Facts] (a0 a1 : FVec Ideal S100000x3 .f32) (p : FVec Ideal S3x100 .f32)
    (h : fn (F := Ideal) a0 a1 p = fun _ => 1#1) (t : Fin 100) : p (ix2 0 t) ≠ 0 ∨ p (ix2 1 t) ≠ 0 ∨ p (ix2 2 t) ≠ 0 := by
  have h' := congrFun h (ix1 t)
  have e : fn (F := Ideal) a0 a1 p (ix1 t) =
      (Ideal.cmp .une (shapeCast S100 (extractStridedSlice S1x100 ![0, 0] p Facts.slices_S3x100_S1x100_0_0) Facts.shapeCasts_S1x100_S100 (ix1 t)) (Ideal.ofBits .f32 0x00000000#32)
        ||| Ideal.cmp .une (shapeCast S100 (extractStridedSlice S1x100 ![1, 0] p Facts.slices_S3x100_S1x100_1_0) Facts.shapeCasts_S1x100_S100 (ix1 t)) (Ideal.ofBits .f32 0x00000000#32))
        ||| Ideal.cmp .une (shapeCast S100 (extractStridedSlice S1x100 ![2, 0] p Facts.slices_S3x100_S1x100_2_0) Facts.shapeCasts_S1x100_S100 (ix1 t)) (Ideal.ofBits .f32 0x00000000#32) := rfl
  rw [e, direction_apply ![0, 0] 0 rfl rfl, direction_apply ![1, 0] 1 rfl rfl, direction_apply ![2, 0] 2 rfl rfl, Ideal.ofBits_zero_f32] at h'
  by_contra hn
  simp only [not_or, not_not] at hn
  rw [hn.1, hn.2.1, hn.2.2] at h'
  simp [Ideal.cmp] at h'

end Cert.Proof.Value
-- ==== Proof.Value.Final.lean ====
module

public import proofs.«01_k».proof.Defs
public import proofs.«01_k».proof.Proof.Value.Total
public import proofs.«01_k».proof.Proof.Value.Ref
public import proofs.«01_k».proof.Proof.Value.Directions

@[expose] public section

noncomputable section

namespace Cert.Proof.Value

open Cert.KernelIdeal Cert.KernelIdeal.Gen Cert.Proof.KI
open Idealize.ShloMosaic hiding ix1 ix2
open Idealize.ShloMosaic.ValueIdx Idealize.ShloMosaic.TcCoe Idealize.SL.Sem

/-- From equal arguments, the reference's result is the kernel's. -/
theorem ref_eq [Cert.Pre_directions.Facts] (m : (ℓ : Loc nD τ sig) → Buf (Elt Ideal) ℓ) (c : Dev nD)
    (h : Cert.Pre_directions.fn (F := Ideal) (m (c.tc.loc main_arg0)) (m (c.tc.loc main_arg1)) (m (c.tc.loc main_arg2)) = fun _ => 1#1) :
    Host.divf (Host.reduceAdd (values (m (c.tc.loc main_arg0)) (m (c.tc.loc main_arg1)) (m (c.tc.loc main_arg2)))
        (constant Cert.ReferenceIdeal.S_ .f32 0x00000000#32) Cert.ReferenceIdeal.Gen.reducesTo_S100_S_d0 Cert.ReferenceIdeal.Gen.h_S_)
        (constant Cert.ReferenceIdeal.S_ .f32 0x42C80000#32)
      = fun _ => ∑ t : Fin 100, addAt m c t := by
  refine (mean_eq _).trans (funext fun _ => Finset.sum_congr rfl fun t _ => ?_)
  rw [values_apply _ _ _ t (directions_apply _ _ _ h t)]
  exact (addAt_eq m c t _ rfl (order (proj (m (c.tc.loc main_arg0)) (unitK (m (c.tc.loc main_arg2)) t)))
    (order (proj (m (c.tc.loc main_arg1)) (unitK (m (c.tc.loc main_arg2)) t))) (order_monotone _) (order_monotone _)).symm

/-- The kernel and the reference compute the same number, for directions that are not zero. -/
theorem algebraic [Cert.Pre_directions.Facts] : Cert.algebraic_KernelIdeal_ReferenceIdeal_pre_directions := by
  intro m g m' g' hpre hagree
  refine ⟨fun c => (fun _ => ∑ t : Fin 100, addAt m c t : Cert.KernelIdeal.S_.Idx → EReal), run m g, ?_⟩
  refine (θ_run Cert.ReferenceIdeal.defs _ _).mono (fun r h c => ⟨(h c).1.trans ?_, (h c).2⟩) (Cert.ReferenceIdeal.Value.run (F := Ideal) m' g')
  have e : Cert.ReferenceIdeal.Value.res_main_v147 (StableHlo.launchContents m' c)
      = values (m (c.tc.loc main_arg0)) (m (c.tc.loc main_arg1)) (m (c.tc.loc main_arg2)) := by
    rw [← (hagree c).1, ← (hagree c).2.1, ← (hagree c).2.2]
    exact v147_values _
  rw [e]
  exact ref_eq m c (hpre c)

end Cert.Proof.Value
-- ==== Proof.Claims.lean ====
/- The frames of the three programs, the named constant's rewrite and the value claim. -/
module

public import proofs.«01_k».proof.Defs
public import proofs.«01_k».proof.Proof.K.Run
public import proofs.«01_k».proof.Proof.KI.Run
public import proofs.«01_k».proof.Proof.Gen.ReferenceIdeal.Run
public import proofs.«01_k».proof.Proof.Value.Final
public import Idealize.ShloMosaic.Lib.Quiescent

@[expose] public section

noncomputable section

open Idealize.ShloMosaic Idealize.ShloMosaic.TcCoe Idealize.SL.Sem

namespace Cert.Proof.Claims

/-- The kernel runs, keeps its arguments and leaves every counter at zero. -/
theorem frame_p : Cert.quiescent_Kernel := fun m ρ _ => Cert.Proof.K.frame m ρ

/-- So does its idealization. -/
theorem frame_pi : Cert.quiescent_KernelIdeal := fun m ρ _ => Cert.Proof.KI.frame m ρ

/-- So does the reference, which declares no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The idealization's frame, under the precondition of the value claim. -/
theorem frame_pi_directions [Cert.Pre_directions.Facts] : Cert.quiescent_KernelIdeal_pre_directions :=
  fun m ρ _ => frame_pi m ρ trivial

/-- The reference's frame, under the same precondition. -/
theorem frame_ri_directions [Cert.Pre_directions.Facts] : Cert.quiescent_ReferenceIdeal_pre_directions :=
  fun m ρ _ => frame_ri m ρ trivial

/-- The literal the kernel multiplies by is the rounding of one hundredth. -/
theorem preserves : Cert.preserves_Kernel_KernelIdeal :=
  IdealRules.named_const.statement Cert.KernelIdeal.κ "inv_l" .f32 0x3C23D70A#32 ((1 / 100 : ℝ) : EReal) rfl

end Cert.Proof.Claims

end
-- ==== Proof.lean ====
/- The claim, from its parts. -/
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.Pre_directions
public import Idealize.ShloMosaic.Adequacy
public import Idealize.ShloMosaic.Init

@[expose] public section

noncomputable section

namespace Cert.Proof

open Idealize.ShloMosaic Idealize.SL.Sem

/-- The programs' side conditions and the claims of them. -/
theorem claim : Cert.Claim :=
  ⟨Cert.Kernel.Gen.facts, Cert.KernelIdeal.Gen.facts, Cert.ReferenceIdeal.Gen.facts, Cert.Pre_directions.Gen.facts,
    Claims.frame_p, Claims.frame_pi, Claims.frame_pi_directions, Claims.frame_ri, Claims.frame_ri_directions, Claims.preserves,
    Value.algebraic⟩

end Cert.Proof

end
